-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S8x2x128 Cert.KernelIdeal.S8x1x128
  ∧ IdealRules.bf16_pair.Statement Cert.KernelIdeal.S8x2x128 Cert.KernelIdeal.S8x1x128
  ∧ IdealRules.bf16_pair.SelectZeroStatement Cert.KernelIdeal.S8x128
  ∧ IdealRules.bf16_pair.Statement Cert.KernelIdeal.S16x128 Cert.KernelIdeal.S8x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x1152x4608 : Shape := ⟨3, ![32, 1152, 4608]⟩
abbrev S32x1152x144 : Shape := ⟨3, ![32, 1152, 144]⟩
abbrev S1024 : Shape := ⟨1, ![1024]⟩
abbrev S_ : Shape := ⟨0, ![]⟩

class Facts : Prop where
  reducesTo_S1024_S_d0 : S1024.ReducesTo [0] S_
  h_S_ : 0 < S_.numel
  bcast_S_S32x1152x144 : S_.BroadcastsInDim S32x1152x144 (![] : Fin 0 → Fin S32x1152x144.rank)
  reducesTo_S32x1152x144_S_d0_1_2 : S32x1152x144.ReducesTo [0, 1, 2] S_

variable [Facts]

def fn {F : FTy → Type} [FloatOps F] (main_arg0 : FVec F S32x1152x4608 .fp8e4m3) (main_arg1 : IVec S32x1152x144 8) (main_arg2 : FVec F S1024 .f32) : IVec S_ 1 :=
  let main_cst : FVec F S_ .f32 := constant S_ .f32 0xFF800000#32
  let main_v0 : FVec F S_ .f32 := (fun x v => Host.reduce FloatOps.maximumf x v reducesTo_S1024_S_d0 h_S_) main_arg2 main_cst
  let main_cst_0 : FVec F S_ .f32 := constant S_ .f32 0x3B124925#32
  let main_v1 : FVec F S_ .f32 := mulf main_v0 main_cst_0
  let main_v2 : FVec F S_ .f32 := Host.absf main_v1
  let main_c : IVec S_ 8 := constantI S_ 8 1#8
  let main_v3 : IVec S32x1152x144 8 := broadcastInDim S32x1152x144 ![] bcast_S_S32x1152x144 main_c
  let main_v4 : IVec S32x1152x144 1 := cmpi .uge main_arg1 main_v3
  let main_c_1 : IVec S_ 8 := constantI S_ 8 254#8
  let main_v5 : IVec S32x1152x144 8 := broadcastInDim S32x1152x144 ![] bcast_S_S32x1152x144 main_c_1
  let main_v6 : IVec S32x1152x144 1 := cmpi .ule main_arg1 main_v5
  let main_v7 : IVec S32x1152x144 1 := andi main_v4 main_v6
  let main_c_2 : IVec S_ 1 := constantI S_ 1 1#1
  let main_v8 : IVec S_ 1 := (fun x v => Host.reduce IntOp.andi x v reducesTo_S32x1152x144_S_d0_1_2 h_S_) main_v7 main_c_2
  let main_cst_3 : FVec F S_ .f32 := constant S_ .f32 0x00000000#32
  let main_v9 : IVec S_ 1 := cmpf .oeq main_v2 main_cst_3
  let main_cst_4 : FVec F S_ .f32 := constant S_ .f32 0x00800000#32
  let main_v10 : IVec S_ 1 := cmpf .oge main_v2 main_cst_4
  let main_cst_5 : FVec F S_ .f32 := constant S_ .f32 0x7E800000#32
  let main_v11 : IVec S_ 1 := cmpf .olt main_v2 main_cst_5
  let main_v12 : IVec S_ 1 := andi main_v10 main_v11
  let main_v13 : IVec S_ 1 := ori main_v9 main_v12
  let main_v14 : IVec S_ 1 := andi main_v8 main_v13
  main_v14
-- ==== Kernel.lean ====
abbrev S32x1152x4608 : Shape := ⟨3, ![32, 1152, 4608]⟩
abbrev S32x1152x144 : Shape := ⟨3, ![32, 1152, 144]⟩
abbrev S1024 : Shape := ⟨1, ![1024]⟩
abbrev S8x128 : Shape := ⟨2, ![8, 128]⟩
abbrev S32x144x1152 : Shape := ⟨3, ![32, 144, 1152]⟩
abbrev S32x4608x1152 : Shape := ⟨3, ![32, 4608, 1152]⟩
abbrev S1x1 : Shape := ⟨2, ![1, 1]⟩
abbrev S1x144x1152 : Shape := ⟨3, ![1, 144, 1152]⟩
abbrev S1x1152x4608 : Shape := ⟨3, ![1, 1152, 4608]⟩
abbrev S1x4608x1152 : Shape := ⟨3, ![1, 4608, 1152]⟩
abbrev S18x8x1152 : Shape := ⟨3, ![18, 8, 1152]⟩
abbrev S16x128 : Shape := ⟨2, ![16, 128]⟩
abbrev S1x8x128 : Shape := ⟨3, ![1, 8, 128]⟩
abbrev S1 : Shape := ⟨1, ![1]⟩
abbrev S1x1x1 : Shape := ⟨3, ![1, 1, 1]⟩
abbrev S1x8x1152 : Shape := ⟨3, ![1, 8, 1152]⟩
abbrev S8x1152 : Shape := ⟨2, ![8, 1152]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S32x128 : Shape := ⟨2, ![32, 128]⟩
abbrev S1x32x128 : Shape := ⟨3, ![1, 32, 128]⟩
abbrev S1x16x128 : Shape := ⟨3, ![1, 16, 128]⟩

abbrev nBuf : Space → Nat
  | .hbm => 8
  | .vmem => 12
  | .smem => 0
  | _ => 0

abbrev bufTy : (tb : Table) → Fin (tcTables nBuf tb) → BufTy
  | .hbm, ⟨0, _⟩ => ⟨S32x1152x4608, .fp8e4m3⟩
  | .hbm, ⟨1, _⟩ => ⟨S32x1152x144, .i8⟩
  | .hbm, ⟨2, _⟩ => ⟨S1024, .f32⟩
  | .hbm, ⟨3, _⟩ => ⟨S8x128, .f32⟩
  | .hbm, ⟨4, _⟩ => ⟨S32x144x1152, .i8⟩
  | .hbm, ⟨5, _⟩ => ⟨S32x4608x1152, .fp8e4m3⟩
  | .hbm, ⟨6, _⟩ => ⟨S1x1, .f32⟩
  | .hbm, ⟨7, _⟩ => ⟨S1x1, .f32⟩
  | .local _ .vmem, ⟨0, _⟩ => ⟨S8x128, .f32⟩
  | .local _ .vmem, ⟨1, _⟩ => ⟨S1x144x1152, .i8⟩
  | .local _ .vmem, ⟨2, _⟩ => ⟨S1x144x1152, .i8⟩
  | .local _ .vmem, ⟨3, _⟩ => ⟨S1x1152x4608, .fp8e4m3⟩
  | .local _ .vmem, ⟨4, _⟩ => ⟨S1x1152x4608, .fp8e4m3⟩
  | .local _ .vmem, ⟨5, _⟩ => ⟨S1x4608x1152, .fp8e4m3⟩
  | .local _ .vmem, ⟨6, _⟩ => ⟨S1x4608x1152, .fp8e4m3⟩
  | .local _ .vmem, ⟨7, _⟩ => ⟨S1x1, .f32⟩
  | .local _ .vmem, ⟨8, _⟩ => ⟨S1x1, .f32⟩
  | .local _ .vmem, ⟨9, _⟩ => ⟨S18x8x1152, .i32⟩
  | .local _ .vmem, ⟨10, _⟩ => ⟨S16x128, .bf16⟩
  | .local _ .vmem, ⟨11, _⟩ => ⟨S8x128, .i32⟩
  | _, _ => ⟨S32x1152x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_4 : BitVec 32 := 0#32
  let c18_i32 : BitVec 32 := 18#32
  let v6 : BitVec 32 := Scalar.addi c0_i32_4 c18_i32
  let c1_i32 : BitVec 32 := 1#32
  ⟨c0_i32_4, v6, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  v15
def k0_mult2 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c8_i32 : BitVec 32 := 8#32
  let v17 : BitVec 32 := Scalar.muli arg10 c8_i32
  v17
def k0_off1 (k0_t1 : Fin k0_t1_loop.trips) : Fin 3 → Nat :=
  let c0_9 : Index := 0#32
  let c0_i32_4 : BitVec 32 := 0#32
  let c1_i32 : BitVec 32 := 1#32
  let arg10 : BitVec 32 := Scf.iv c0_i32_4 c1_i32 k0_t1
  let c8_i32 : BitVec 32 := 8#32
  let v17 : BitVec 32 := Scalar.muli arg10 c8_i32
  let v18 : BitVec 32 := v17
  let v19 : Index := Scalar.indexCast v18
  let c0_10 : Index := 0#32
  ![0, v19.toNat, 0]
def k0_off2 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v28 : Index := Scalar.indexCast arg10
  let c0_11 : Index := 0#32
  let c0_12 : Index := 0#32
  ![v28.toNat, 0, 0]
def k0_off3 (k0_t1 : Fin k0_t1_loop.trips) (c0_i32_13 : BitVec 32) : Fin 3 → Nat :=
  let c0_14 : Index := 0#32
  let c0_15 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v32 : BitVec 32 := Scalar.addi v16 c0_i32_13
  let v33 : Index := Scalar.indexCast v32
  ![0, 0, v33.toNat]
def k0_off4 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v38 : Index := Scalar.indexCast arg10
  let c0_16 : Index := 0#32
  let c0_17 : Index := 0#32
  ![v38.toNat, 0, 0]
def k0_off5 (k0_t1 : Fin k0_t1_loop.trips) (c0_i32_13 : BitVec 32) (c0_i32_21 : BitVec 32) : Fin 3 → Nat :=
  let c0_22 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v32 : BitVec 32 := Scalar.addi v16 c0_i32_13
  let v68 : BitVec 32 := Scalar.addi v32 c0_i32_21
  let v69 : Index := Scalar.indexCast v68
  let c0_23 : Index := 0#32
  ![0, v69.toNat, 0]
def k0_off6 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v73 : Index := Scalar.indexCast arg10
  let c1 : Index := 1#32
  let c0_24 : Index := 0#32
  ![v73.toNat, 1, 0]
def k0_off7 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v108 : Index := Scalar.indexCast arg10
  let c2 : Index := 2#32
  let c0_31 : Index := 0#32
  ![v108.toNat, 2, 0]
def k0_off8 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v143 : Index := Scalar.indexCast arg10
  let c3 : Index := 3#32
  let c0_38 : Index := 0#32
  ![v143.toNat, 3, 0]
def k0_off9 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v184 : Index := Scalar.indexCast arg10
  let c4 : Index := 4#32
  let c0_47 : Index := 0#32
  ![v184.toNat, 4, 0]
def k0_off10 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v219 : Index := Scalar.indexCast arg10
  let c5 : Index := 5#32
  let c0_55 : Index := 0#32
  ![v219.toNat, 5, 0]
def k0_off11 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v254 : Index := Scalar.indexCast arg10
  let c6 : Index := 6#32
  let c0_63 : Index := 0#32
  ![v254.toNat, 6, 0]
def k0_off12 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v289 : Index := Scalar.indexCast arg10
  let c7 : Index := 7#32
  let c0_71 : Index := 0#32
  ![v289.toNat, 7, 0]
def k0_off13 (k0_t1 : Fin k0_t1_loop.trips) (c0_i32_79 : BitVec 32) : Fin 3 → Nat :=
  let c0_80 : Index := 0#32
  let c128 : Index := 128#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v324 : BitVec 32 := Scalar.addi v16 c0_i32_79
  let v325 : Index := Scalar.indexCast v324
  ![0, 128, v325.toNat]
def k0_off14 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v330 : Index := Scalar.indexCast arg10
  let c0_81 : Index := 0#32
  let c128_82 : Index := 128#32
  ![v330.toNat, 0, 128]
def k0_off15 (k0_t1 : Fin k0_t1_loop.trips) (c0_i32_79 : BitVec 32) (c0_i32_87 : BitVec 32) : Fin 3 → Nat :=
  let c0_88 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v324 : BitVec 32 := Scalar.addi v16 c0_i32_79
  let v360 : BitVec 32 := Scalar.addi v324 c0_i32_87
  let v361 : Index := Scalar.indexCast v360
  let c128_89 : Index := 128#32
  ![0, v361.toNat, 128]
def k0_off16 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v365 : Index := Scalar.indexCast arg10
  let c1_90 : Index := 1#32
  let c128_91 : Index := 128#32
  ![v365.toNat, 1, 128]
def k0_off17 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v400 : Index := Scalar.indexCast arg10
  let c2_99 : Index := 2#32
  let c128_100 : Index := 128#32
  ![v400.toNat, 2, 128]
def k0_off18 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v435 : Index := Scalar.indexCast arg10
  let c3_108 : Index := 3#32
  let c128_109 : Index := 128#32
  ![v435.toNat, 3, 128]
def k0_off19 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v476 : Index := Scalar.indexCast arg10
  let c4_120 : Index := 4#32
  let c128_121 : Index := 128#32
  ![v476.toNat, 4, 128]
def k0_off20 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v511 : Index := Scalar.indexCast arg10
  let c5_129 : Index := 5#32
  let c128_130 : Index := 128#32
  ![v511.toNat, 5, 128]
def k0_off21 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v546 : Index := Scalar.indexCast arg10
  let c6_138 : Index := 6#32
  let c128_139 : Index := 128#32
  ![v546.toNat, 6, 128]
def k0_off22 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v581 : Index := Scalar.indexCast arg10
  let c7_147 : Index := 7#32
  let c128_148 : Index := 128#32
  ![v581.toNat, 7, 128]
def k0_off23 (k0_t1 : Fin k0_t1_loop.trips) (c0_i32_156 : BitVec 32) : Fin 3 → Nat :=
  let c0_157 : Index := 0#32
  let c256 : Index := 256#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v616 : BitVec 32 := Scalar.addi v16 c0_i32_156
  let v617 : Index := Scalar.indexCast v616
  ![0, 256, v617.toNat]
def k0_off24 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v622 : Index := Scalar.indexCast arg10
  let c0_158 : Index := 0#32
  let c256_159 : Index := 256#32
  ![v622.toNat, 0, 256]
def k0_off25 (k0_t1 : Fin k0_t1_loop.trips) (c0_i32_156 : BitVec 32) (c0_i32_164 : BitVec 32) : Fin 3 → Nat :=
  let c0_165 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v616 : BitVec 32 := Scalar.addi v16 c0_i32_156
  let v652 : BitVec 32 := Scalar.addi v616 c0_i32_164
  let v653 : Index := Scalar.indexCast v652
  let c256_166 : Index := 256#32
  ![0, v653.toNat, 256]
def k0_off26 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v657 : Index := Scalar.indexCast arg10
  let c1_167 : Index := 1#32
  let c256_168 : Index := 256#32
  ![v657.toNat, 1, 256]
def k0_off27 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v692 : Index := Scalar.indexCast arg10
  let c2_176 : Index := 2#32
  let c256_177 : Index := 256#32
  ![v692.toNat, 2, 256]
def k0_off28 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v727 : Index := Scalar.indexCast arg10
  let c3_185 : Index := 3#32
  let c256_186 : Index := 256#32
  ![v727.toNat, 3, 256]
def k0_off29 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v768 : Index := Scalar.indexCast arg10
  let c4_197 : Index := 4#32
  let c256_198 : Index := 256#32
  ![v768.toNat, 4, 256]
def k0_off30 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v803 : Index := Scalar.indexCast arg10
  let c5_206 : Index := 5#32
  let c256_207 : Index := 256#32
  ![v803.toNat, 5, 256]
def k0_off31 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v838 : Index := Scalar.indexCast arg10
  let c6_215 : Index := 6#32
  let c256_216 : Index := 256#32
  ![v838.toNat, 6, 256]
def k0_off32 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v873 : Index := Scalar.indexCast arg10
  let c7_224 : Index := 7#32
  let c256_225 : Index := 256#32
  ![v873.toNat, 7, 256]
def k0_off33 (k0_t1 : Fin k0_t1_loop.trips) (c0_i32_233 : BitVec 32) : Fin 3 → Nat :=
  let c0_234 : Index := 0#32
  let c384 : Index := 384#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v908 : BitVec 32 := Scalar.addi v16 c0_i32_233
  let v909 : Index := Scalar.indexCast v908
  ![0, 384, v909.toNat]
def k0_off34 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v914 : Index := Scalar.indexCast arg10
  let c0_235 : Index := 0#32
  let c384_236 : Index := 384#32
  ![v914.toNat, 0, 384]
def k0_off35 (k0_t1 : Fin k0_t1_loop.trips) (c0_i32_233 : BitVec 32) (c0_i32_241 : BitVec 32) : Fin 3 → Nat :=
  let c0_242 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v908 : BitVec 32 := Scalar.addi v16 c0_i32_233
  let v944 : BitVec 32 := Scalar.addi v908 c0_i32_241
  let v945 : Index := Scalar.indexCast v944
  let c384_243 : Index := 384#32
  ![0, v945.toNat, 384]
def k0_off36 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v949 : Index := Scalar.indexCast arg10
  let c1_244 : Index := 1#32
  let c384_245 : Index := 384#32
  ![v949.toNat, 1, 384]
def k0_off37 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v984 : Index := Scalar.indexCast arg10
  let c2_253 : Index := 2#32
  let c384_254 : Index := 384#32
  ![v984.toNat, 2, 384]
def k0_off38 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1019 : Index := Scalar.indexCast arg10
  let c3_262 : Index := 3#32
  let c384_263 : Index := 384#32
  ![v1019.toNat, 3, 384]
def k0_off39 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1060 : Index := Scalar.indexCast arg10
  let c4_274 : Index := 4#32
  let c384_275 : Index := 384#32
  ![v1060.toNat, 4, 384]
def k0_off40 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1095 : Index := Scalar.indexCast arg10
  let c5_283 : Index := 5#32
  let c384_284 : Index := 384#32
  ![v1095.toNat, 5, 384]
def k0_off41 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1130 : Index := Scalar.indexCast arg10
  let c6_292 : Index := 6#32
  let c384_293 : Index := 384#32
  ![v1130.toNat, 6, 384]
def k0_off42 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1165 : Index := Scalar.indexCast arg10
  let c7_301 : Index := 7#32
  let c384_302 : Index := 384#32
  ![v1165.toNat, 7, 384]
def k0_off43 (k0_t1 : Fin k0_t1_loop.trips) (c0_i32_310 : BitVec 32) : Fin 3 → Nat :=
  let c0_311 : Index := 0#32
  let c512 : Index := 512#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1200 : BitVec 32 := Scalar.addi v16 c0_i32_310
  let v1201 : Index := Scalar.indexCast v1200
  ![0, 512, v1201.toNat]
def k0_off44 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1206 : Index := Scalar.indexCast arg10
  let c0_312 : Index := 0#32
  let c512_313 : Index := 512#32
  ![v1206.toNat, 0, 512]
def k0_off45 (k0_t1 : Fin k0_t1_loop.trips) (c0_i32_310 : BitVec 32) (c0_i32_318 : BitVec 32) : Fin 3 → Nat :=
  let c0_319 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1200 : BitVec 32 := Scalar.addi v16 c0_i32_310
  let v1236 : BitVec 32 := Scalar.addi v1200 c0_i32_318
  let v1237 : Index := Scalar.indexCast v1236
  let c512_320 : Index := 512#32
  ![0, v1237.toNat, 512]
def k0_off46 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1241 : Index := Scalar.indexCast arg10
  let c1_321 : Index := 1#32
  let c512_322 : Index := 512#32
  ![v1241.toNat, 1, 512]
def k0_off47 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1276 : Index := Scalar.indexCast arg10
  let c2_330 : Index := 2#32
  let c512_331 : Index := 512#32
  ![v1276.toNat, 2, 512]
def k0_off48 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1311 : Index := Scalar.indexCast arg10
  let c3_339 : Index := 3#32
  let c512_340 : Index := 512#32
  ![v1311.toNat, 3, 512]
def k0_off49 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1352 : Index := Scalar.indexCast arg10
  let c4_351 : Index := 4#32
  let c512_352 : Index := 512#32
  ![v1352.toNat, 4, 512]
def k0_off50 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1387 : Index := Scalar.indexCast arg10
  let c5_360 : Index := 5#32
  let c512_361 : Index := 512#32
  ![v1387.toNat, 5, 512]
def k0_off51 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1422 : Index := Scalar.indexCast arg10
  let c6_369 : Index := 6#32
  let c512_370 : Index := 512#32
  ![v1422.toNat, 6, 512]
def k0_off52 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1457 : Index := Scalar.indexCast arg10
  let c7_378 : Index := 7#32
  let c512_379 : Index := 512#32
  ![v1457.toNat, 7, 512]
def k0_off53 (k0_t1 : Fin k0_t1_loop.trips) (c0_i32_387 : BitVec 32) : Fin 3 → Nat :=
  let c0_388 : Index := 0#32
  let c640 : Index := 640#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1492 : BitVec 32 := Scalar.addi v16 c0_i32_387
  let v1493 : Index := Scalar.indexCast v1492
  ![0, 640, v1493.toNat]
def k0_off54 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1498 : Index := Scalar.indexCast arg10
  let c0_389 : Index := 0#32
  let c640_390 : Index := 640#32
  ![v1498.toNat, 0, 640]
def k0_off55 (k0_t1 : Fin k0_t1_loop.trips) (c0_i32_387 : BitVec 32) (c0_i32_395 : BitVec 32) : Fin 3 → Nat :=
  let c0_396 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1492 : BitVec 32 := Scalar.addi v16 c0_i32_387
  let v1528 : BitVec 32 := Scalar.addi v1492 c0_i32_395
  let v1529 : Index := Scalar.indexCast v1528
  let c640_397 : Index := 640#32
  ![0, v1529.toNat, 640]
def k0_off56 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1533 : Index := Scalar.indexCast arg10
  let c1_398 : Index := 1#32
  let c640_399 : Index := 640#32
  ![v1533.toNat, 1, 640]
def k0_off57 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1568 : Index := Scalar.indexCast arg10
  let c2_407 : Index := 2#32
  let c640_408 : Index := 640#32
  ![v1568.toNat, 2, 640]
def k0_off58 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1603 : Index := Scalar.indexCast arg10
  let c3_416 : Index := 3#32
  let c640_417 : Index := 640#32
  ![v1603.toNat, 3, 640]
def k0_off59 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1644 : Index := Scalar.indexCast arg10
  let c4_428 : Index := 4#32
  let c640_429 : Index := 640#32
  ![v1644.toNat, 4, 640]
def k0_off60 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1679 : Index := Scalar.indexCast arg10
  let c5_437 : Index := 5#32
  let c640_438 : Index := 640#32
  ![v1679.toNat, 5, 640]
def k0_off61 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1714 : Index := Scalar.indexCast arg10
  let c6_446 : Index := 6#32
  let c640_447 : Index := 640#32
  ![v1714.toNat, 6, 640]
def k0_off62 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1749 : Index := Scalar.indexCast arg10
  let c7_455 : Index := 7#32
  let c640_456 : Index := 640#32
  ![v1749.toNat, 7, 640]
def k0_off63 (k0_t1 : Fin k0_t1_loop.trips) (c0_i32_464 : BitVec 32) : Fin 3 → Nat :=
  let c0_465 : Index := 0#32
  let c768 : Index := 768#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1784 : BitVec 32 := Scalar.addi v16 c0_i32_464
  let v1785 : Index := Scalar.indexCast v1784
  ![0, 768, v1785.toNat]
def k0_off64 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1790 : Index := Scalar.indexCast arg10
  let c0_466 : Index := 0#32
  let c768_467 : Index := 768#32
  ![v1790.toNat, 0, 768]
def k0_off65 (k0_t1 : Fin k0_t1_loop.trips) (c0_i32_464 : BitVec 32) (c0_i32_472 : BitVec 32) : Fin 3 → Nat :=
  let c0_473 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v1784 : BitVec 32 := Scalar.addi v16 c0_i32_464
  let v1820 : BitVec 32 := Scalar.addi v1784 c0_i32_472
  let v1821 : Index := Scalar.indexCast v1820
  let c768_474 : Index := 768#32
  ![0, v1821.toNat, 768]
def k0_off66 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1825 : Index := Scalar.indexCast arg10
  let c1_475 : Index := 1#32
  let c768_476 : Index := 768#32
  ![v1825.toNat, 1, 768]
def k0_off67 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1860 : Index := Scalar.indexCast arg10
  let c2_484 : Index := 2#32
  let c768_485 : Index := 768#32
  ![v1860.toNat, 2, 768]
def k0_off68 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1895 : Index := Scalar.indexCast arg10
  let c3_493 : Index := 3#32
  let c768_494 : Index := 768#32
  ![v1895.toNat, 3, 768]
def k0_off69 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1936 : Index := Scalar.indexCast arg10
  let c4_505 : Index := 4#32
  let c768_506 : Index := 768#32
  ![v1936.toNat, 4, 768]
def k0_off70 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v1971 : Index := Scalar.indexCast arg10
  let c5_514 : Index := 5#32
  let c768_515 : Index := 768#32
  ![v1971.toNat, 5, 768]
def k0_off71 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2006 : Index := Scalar.indexCast arg10
  let c6_523 : Index := 6#32
  let c768_524 : Index := 768#32
  ![v2006.toNat, 6, 768]
def k0_off72 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2041 : Index := Scalar.indexCast arg10
  let c7_532 : Index := 7#32
  let c768_533 : Index := 768#32
  ![v2041.toNat, 7, 768]
def k0_off73 (k0_t1 : Fin k0_t1_loop.trips) (c0_i32_541 : BitVec 32) : Fin 3 → Nat :=
  let c0_542 : Index := 0#32
  let c896 : Index := 896#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v2076 : BitVec 32 := Scalar.addi v16 c0_i32_541
  let v2077 : Index := Scalar.indexCast v2076
  ![0, 896, v2077.toNat]
def k0_off74 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2082 : Index := Scalar.indexCast arg10
  let c0_543 : Index := 0#32
  let c896_544 : Index := 896#32
  ![v2082.toNat, 0, 896]
def k0_off75 (k0_t1 : Fin k0_t1_loop.trips) (c0_i32_541 : BitVec 32) (c0_i32_549 : BitVec 32) : Fin 3 → Nat :=
  let c0_550 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v2076 : BitVec 32 := Scalar.addi v16 c0_i32_541
  let v2112 : BitVec 32 := Scalar.addi v2076 c0_i32_549
  let v2113 : Index := Scalar.indexCast v2112
  let c896_551 : Index := 896#32
  ![0, v2113.toNat, 896]
def k0_off76 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2117 : Index := Scalar.indexCast arg10
  let c1_552 : Index := 1#32
  let c896_553 : Index := 896#32
  ![v2117.toNat, 1, 896]
def k0_off77 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2152 : Index := Scalar.indexCast arg10
  let c2_561 : Index := 2#32
  let c896_562 : Index := 896#32
  ![v2152.toNat, 2, 896]
def k0_off78 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2187 : Index := Scalar.indexCast arg10
  let c3_570 : Index := 3#32
  let c896_571 : Index := 896#32
  ![v2187.toNat, 3, 896]
def k0_off79 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2228 : Index := Scalar.indexCast arg10
  let c4_582 : Index := 4#32
  let c896_583 : Index := 896#32
  ![v2228.toNat, 4, 896]
def k0_off80 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2263 : Index := Scalar.indexCast arg10
  let c5_591 : Index := 5#32
  let c896_592 : Index := 896#32
  ![v2263.toNat, 5, 896]
def k0_off81 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2298 : Index := Scalar.indexCast arg10
  let c6_600 : Index := 6#32
  let c896_601 : Index := 896#32
  ![v2298.toNat, 6, 896]
def k0_off82 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2333 : Index := Scalar.indexCast arg10
  let c7_609 : Index := 7#32
  let c896_610 : Index := 896#32
  ![v2333.toNat, 7, 896]
def k0_off83 (k0_t1 : Fin k0_t1_loop.trips) (c0_i32_618 : BitVec 32) : Fin 3 → Nat :=
  let c0_619 : Index := 0#32
  let c1024 : Index := 1024#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v2368 : BitVec 32 := Scalar.addi v16 c0_i32_618
  let v2369 : Index := Scalar.indexCast v2368
  ![0, 1024, v2369.toNat]
def k0_off84 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2374 : Index := Scalar.indexCast arg10
  let c0_620 : Index := 0#32
  let c1024_621 : Index := 1024#32
  ![v2374.toNat, 0, 1024]
def k0_off85 (k0_t1 : Fin k0_t1_loop.trips) (c0_i32_618 : BitVec 32) (c0_i32_626 : BitVec 32) : Fin 3 → Nat :=
  let c0_627 : Index := 0#32
  let c0_i32_4 : BitVec 32 := 0#32
  let c1_i32 : BitVec 32 := 1#32
  let arg10 : BitVec 32 := Scf.iv c0_i32_4 c1_i32 k0_t1
  let c256_i32 : BitVec 32 := 256#32
  let v15 : BitVec 32 := Scalar.muli arg10 c256_i32
  let v16 : BitVec 32 := v15
  let v2368 : BitVec 32 := Scalar.addi v16 c0_i32_618
  let v2404 : BitVec 32 := Scalar.addi v2368 c0_i32_626
  let v2405 : Index := Scalar.indexCast v2404
  let c1024_628 : Index := 1024#32
  ![0, v2405.toNat, 1024]
def k0_off86 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2409 : Index := Scalar.indexCast arg10
  let c1_629 : Index := 1#32
  let c1024_630 : Index := 1024#32
  ![v2409.toNat, 1, 1024]
def k0_off87 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2444 : Index := Scalar.indexCast arg10
  let c2_638 : Index := 2#32
  let c1024_639 : Index := 1024#32
  ![v2444.toNat, 2, 1024]
def k0_off88 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2479 : Index := Scalar.indexCast arg10
  let c3_647 : Index := 3#32
  let c1024_648 : Index := 1024#32
  ![v2479.toNat, 3, 1024]
def k0_off89 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2520 : Index := Scalar.indexCast arg10
  let c4_659 : Index := 4#32
  let c1024_660 : Index := 1024#32
  ![v2520.toNat, 4, 1024]
def k0_off90 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2555 : Index := Scalar.indexCast arg10
  let c5_668 : Index := 5#32
  let c1024_669 : Index := 1024#32
  ![v2555.toNat, 5, 1024]
def k0_off91 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2590 : Index := Scalar.indexCast arg10
  let c6_677 : Index := 6#32
  let c1024_678 : Index := 1024#32
  ![v2590.toNat, 6, 1024]
def k0_off92 (k0_t1 : Fin k0_t1_loop.trips) : Fin 3 → Nat :=
  let c0_i32_4 : BitVec 32 := 0#32
  let c1_i32 : BitVec 32 := 1#32
  let arg10 : BitVec 32 := Scf.iv c0_i32_4 c1_i32 k0_t1
  let v2625 : Index := Scalar.indexCast arg10
  let c7_686 : Index := 7#32
  let c1024_687 : Index := 1024#32
  ![v2625.toNat, 7, 1024]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x144x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4608x1152 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S8x2x128 : Shape := ⟨3, ![8, 2, 128]⟩
abbrev S8x1x128 : Shape := ⟨3, ![8, 1, 128]⟩
  | .local _ .vmem, ⟨11, _⟩ => ⟨S8x2x128, .bf16⟩
variable {F : FTy → Type} [FloatOps F]
-- ==== ReferenceIdeal.lean ====
abbrev S32x1152x4608 : Shape := ⟨3, ![32, 1152, 4608]⟩
abbrev S32x1152x144 : Shape := ⟨3, ![32, 1152, 144]⟩
abbrev S1024 : Shape := ⟨1, ![1024]⟩
abbrev S_ : Shape := ⟨0, ![]⟩
abbrev S1x1 : Shape := ⟨2, ![1, 1]⟩
abbrev S32x4608x1152 : Shape := ⟨3, ![32, 4608, 1152]⟩
abbrev S32x1152x144x32 : Shape := ⟨4, ![32, 1152, 144, 32]⟩
abbrev S32x1152x144x1 : Shape := ⟨4, ![32, 1152, 144, 1]⟩
abbrev S1x1x1 : Shape := ⟨3, ![1, 1, 1]⟩
abbrev S1x32x1152x4608 : Shape := ⟨4, ![1, 32, 1152, 4608]⟩
abbrev S1 : Shape := ⟨1, ![1]⟩
abbrev S1x1x1x1 : Shape := ⟨4, ![1, 1, 1, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x1152x4608, .fp8e4m3⟩
  | .hbm, ⟨1, _⟩ => ⟨S32x1152x144, .i8⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S1x1, .f32⟩
  | .hbm, ⟨6, _⟩ => ⟨S32x4608x1152, .fp8e4m3⟩
  | .hbm, ⟨7, _⟩ => ⟨S1x1, .f32⟩
  | .hbm, ⟨8, _⟩ => ⟨S1x1, .f32⟩
  | .local _ .vmem, ⟨0, _⟩ => ⟨S32x1152x4608, .fp8e4m3⟩
  | .local _ .vmem, ⟨1, _⟩ => ⟨S32x1152x144, .i8⟩
  | .local _ .vmem, ⟨2, _⟩ => ⟨S1x1, .f32⟩
  | .local _ .vmem, ⟨3, _⟩ => ⟨S32x4608x1152, .fp8e4m3⟩
  | .local _ .vmem, ⟨4, _⟩ => ⟨S1x1, .f32⟩
  | .local _ .vmem, ⟨5, _⟩ => ⟨S1x1, .f32⟩
  | _, _ => ⟨S32x1152x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1152x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1152x144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4608x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/- The run of the kernel as printed at any float instance: whatever the staging and scratch buffers hold, the body returns them at some
   contents, so @main terminates without a fault, its argument arrays end unchanged and every semaphore counter ends at
   zero (`Kernel.Run.frame`). -/
module

public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

/-- The body on whole memrefs: the three inputs end as they were, the outputs and the scratch at some contents. The two
    conditionals are decided by `hc0`, `hc1`, in each of their cases. -/
theorem body_run (c : Dev nD) (i : grid0.Coords) (arg1 : Memref sig .tc .vmem S8x128 .f32) (harg1 : arg1.IsWhole)
    (arg2 : Memref sig .tc .vmem S1x144x1152 .i8) (harg2 : arg2.IsWhole) (arg3 : Memref sig .tc .vmem S1x1152x4608 .fp8e4m3) (harg3 : arg3.IsWhole)
    (arg4 : Memref sig .tc .vmem S1x4608x1152 .fp8e4m3) (harg4 : arg4.IsWhole) (arg5 : Memref sig .tc .vmem S1x1 .f32) (harg5 : arg5.IsWhole)
    (arg6 : Memref sig .tc .vmem S1x1 .f32) (harg6 : arg6.IsWhole) (arg7 : Memref sig .tc .vmem S18x8x1152 .i32) (harg7 : arg7.IsWhole)
    (arg8 : Memref sig .tc .vmem S16x128 .bf16) (harg8 : arg8.IsWhole) (arg9 : Memref sig .tc .vmem S8x128 .i32) (harg9 : arg9.IsWhole)
    (x0 : Vec F S8x128 .f32) (x1 : Vec F S1x144x1152 .i8) (x2 : Vec F S1x1152x4608 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_mxfp8_col_requant i arg1 harg1 arg2 harg2 arg3 harg3 arg4 harg4 arg5 harg5 arg6 harg6 arg7 harg7 arg8 harg8 arg9 harg9) K := by
  simp only [cc0_mxfp8_col_requant_eq_skeleton]; unfold cc0_mxfp8_col_requant_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  by_cases hc0 : k0_cond1 i = 1#1 <;> by_cases hc1 : k0_cond2 i = 1#1
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The outputs are forgotten: the frame reads nothing of what the kernel leaves in them. -/
def forgets : Fin 6 → Bool := fun w => w.val == 3 || w.val == 4 || w.val == 5

/-- The proof data on core `c`: the arrays as the region finds them, each input's buffer at its block, the outputs
    unnamed; the invariant is every scratch buffer at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem Phi_eq (c : Dev nD) (t : Fin (cfg0.N + 1)) : (dats m 0 c).Φ t = Pipeline.ΦA spec0 c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The inputs are idle at no point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- Each window's staging memref at point `t`. -/
abbrev ms0_0 (t : Fin cfg0.N) : Memref sig .tc .vmem S8x128 .f32 := win0_0.stage (cfg0.slots t 0)
abbrev ms0_1 (t : Fin cfg0.N) : Memref sig .tc .vmem S1x144x1152 .i8 := win0_1.stage (cfg0.slots t 1)
abbrev ms0_2 (t : Fin cfg0.N) : Memref sig .tc .vmem S1x1152x4608 .fp8e4m3 := win0_2.stage (cfg0.slots t 2)
abbrev ms0_3 (t : Fin cfg0.N) : Memref sig .tc .vmem S1x4608x1152 .fp8e4m3 := win0_3.stage (cfg0.slots t 3)
abbrev ms0_4 (t : Fin cfg0.N) : Memref sig .tc .vmem S1x1 .f32 := win0_4.stage (cfg0.slots t 4)
abbrev ms0_5 (t : Fin cfg0.N) : Memref sig .tc .vmem S1x1 .f32 := win0_5.stage (cfg0.slots t 5)

/-- The scratch buffers the kernel is passed, whole. -/
abbrev scM0_0 : Memref sig .tc .vmem S18x8x1152 .i32 := Memref.whole cc0_scratch0
abbrev scM0_1 : Memref sig .tc .vmem S16x128 .bf16 := Memref.whole cc0_scratch1
abbrev scM0_2 : Memref sig .tc .vmem S8x128 .i32 := Memref.whole cc0_scratch2

/-- The invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 9600000 in
/-- The body at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [Phi_eq, Phi_eq, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the run to the library's frame post, and every semaphore counter at zero at every final state. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => by rw [Phi_eq]) (hout := fun c => by rw [Phi_eq])

/-- @main terminates without a fault, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main_quiescent m ρ)

end Cert.Kernel.Run

end
-- ==== Proof.KernelIdealFrame.lean ====
/- The run of the idealized kernel at any float instance: whatever the staging and scratch buffers hold, the body returns them at some
   contents, so @main terminates without a fault, its argument arrays end unchanged and every semaphore counter ends at
   zero (`KernelIdeal.Run.frame`). -/
module

public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body on whole memrefs: the three inputs end as they were, the outputs and the scratch at some contents. The two
    conditionals are decided by `hc0`, `hc1`, in each of their cases. -/
theorem body_run (c : Dev nD) (i : grid0.Coords) (arg1 : Memref sig .tc .vmem S8x128 .f32) (harg1 : arg1.IsWhole)
    (arg2 : Memref sig .tc .vmem S1x144x1152 .i8) (harg2 : arg2.IsWhole) (arg3 : Memref sig .tc .vmem S1x1152x4608 .fp8e4m3) (harg3 : arg3.IsWhole)
    (arg4 : Memref sig .tc .vmem S1x4608x1152 .fp8e4m3) (harg4 : arg4.IsWhole) (arg5 : Memref sig .tc .vmem S1x1 .f32) (harg5 : arg5.IsWhole)
    (arg6 : Memref sig .tc .vmem S1x1 .f32) (harg6 : arg6.IsWhole) (arg7 : Memref sig .tc .vmem S18x8x1152 .i32) (harg7 : arg7.IsWhole)
    (arg8 : Memref sig .tc .vmem S16x128 .bf16) (harg8 : arg8.IsWhole) (arg9 : Memref sig .tc .vmem S8x2x128 .bf16) (harg9 : arg9.IsWhole)
    (x0 : Vec F S8x128 .f32) (x1 : Vec F S1x144x1152 .i8) (x2 : Vec F S1x1152x4608 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_mxfp8_col_requant i arg1 harg1 arg2 harg2 arg3 harg3 arg4 harg4 arg5 harg5 arg6 harg6 arg7 harg7 arg8 harg8 arg9 harg9) K := by
  simp only [cc0_mxfp8_col_requant_eq_skeleton]; unfold cc0_mxfp8_col_requant_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  by_cases hc0 : k0_cond1 i = 1#1 <;> by_cases hc1 : k0_cond2 i = 1#1
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

variable (m : (ℓ : Loc nD τ sig) → Buf (Elt F) ℓ) (ρ : Dev nD → PrngReg)

/-- The outputs are forgotten: the frame reads nothing of what the kernel leaves in them. -/
def forgets : Fin 6 → Bool := fun w => w.val == 3 || w.val == 4 || w.val == 5

/-- The proof data on core `c`: the arrays as the region finds them, each input's buffer at its block, the outputs
    unnamed; the invariant is every scratch buffer at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem Phi_eq (c : Dev nD) (t : Fin (cfg0.N + 1)) : (dats m 0 c).Φ t = Pipeline.ΦA spec0 c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The inputs are idle at no point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

/-- Each window's staging memref at point `t`. -/
abbrev ms0_0 (t : Fin cfg0.N) : Memref sig .tc .vmem S8x128 .f32 := win0_0.stage (cfg0.slots t 0)
abbrev ms0_1 (t : Fin cfg0.N) : Memref sig .tc .vmem S1x144x1152 .i8 := win0_1.stage (cfg0.slots t 1)
abbrev ms0_2 (t : Fin cfg0.N) : Memref sig .tc .vmem S1x1152x4608 .fp8e4m3 := win0_2.stage (cfg0.slots t 2)
abbrev ms0_3 (t : Fin cfg0.N) : Memref sig .tc .vmem S1x4608x1152 .fp8e4m3 := win0_3.stage (cfg0.slots t 3)
abbrev ms0_4 (t : Fin cfg0.N) : Memref sig .tc .vmem S1x1 .f32 := win0_4.stage (cfg0.slots t 4)
abbrev ms0_5 (t : Fin cfg0.N) : Memref sig .tc .vmem S1x1 .f32 := win0_5.stage (cfg0.slots t 5)

/-- The scratch buffers the kernel is passed, whole. -/
abbrev scM0_0 : Memref sig .tc .vmem S18x8x1152 .i32 := Memref.whole cc0_scratch0
abbrev scM0_1 : Memref sig .tc .vmem S16x128 .bf16 := Memref.whole cc0_scratch1
abbrev scM0_2 : Memref sig .tc .vmem S8x2x128 .bf16 := Memref.whole cc0_scratch2

/-- The invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 9600000 in
/-- The body at any point, from `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [Phi_eq, Phi_eq, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the run to the library's frame post, and every semaphore counter at zero at every final state. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => by rw [Phi_eq]) (hout := fun c => by rw [Phi_eq])

/-- @main terminates without a fault, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main_quiescent m ρ)

end Cert.KernelIdeal.Run

end
-- ==== Proof.Tile.lean ====
/- The column loop of the kernel in uniform terms: one trip handles 9 groups of 128 rows, 2 groups of 128 columns and 4 groups
   of 32 columns, and each of the 72 tiles is one expression in its group numbers. What the trip stores and what it yields are
   stated here as lists and folds over the group numbers, for any float instance. -/
module

public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Cert.KernelIdeal.Gen

variable {F : FTy → Type} [FloatOps F]

/-- Offsets of the 128 by 128 block of codes for row group `s` (the column group enters as its first column `c`). -/
def offX (k : Fin k0_t1_loop.trips) (s : Fin 9) (c : BitVec 32) : Fin 3 → Nat := match s with
  | 0 => k0_off3 k c | 1 => k0_off13 k c | 2 => k0_off23 k c | 3 => k0_off33 k c | 4 => k0_off43 k c
  | 5 => k0_off53 k c | 6 => k0_off63 k c | 7 => k0_off73 k c | 8 => k0_off83 k c

/-- Offsets of the 32 by 128 tile of results for row group `s` and the column groups `c`, `d`. -/
def offO (k : Fin k0_t1_loop.trips) (s : Fin 9) (c d : BitVec 32) : Fin 3 → Nat := match s with
  | 0 => k0_off5 k c d | 1 => k0_off15 k c d | 2 => k0_off25 k c d | 3 => k0_off35 k c d | 4 => k0_off45 k c d
  | 5 => k0_off55 k c d | 6 => k0_off65 k c d | 7 => k0_off75 k c d | 8 => k0_off85 k c d

/-- Offsets of row `r` of the trip's scale words, at row group `s`. -/
def offR (k : Fin k0_t1_loop.trips) (s : Fin 9) (r : Fin 8) : Fin 3 → Nat := match s, r with
  | 0, 0 => k0_off4 k | 0, 1 => k0_off6 k | 0, 2 => k0_off7 k | 0, 3 => k0_off8 k | 0, 4 => k0_off9 k | 0, 5 => k0_off10 k | 0, 6 => k0_off11 k | 0, 7 => k0_off12 k
  | 1, 0 => k0_off14 k | 1, 1 => k0_off16 k | 1, 2 => k0_off17 k | 1, 3 => k0_off18 k | 1, 4 => k0_off19 k | 1, 5 => k0_off20 k | 1, 6 => k0_off21 k | 1, 7 => k0_off22 k
  | 2, 0 => k0_off24 k | 2, 1 => k0_off26 k | 2, 2 => k0_off27 k | 2, 3 => k0_off28 k | 2, 4 => k0_off29 k | 2, 5 => k0_off30 k | 2, 6 => k0_off31 k | 2, 7 => k0_off32 k
  | 3, 0 => k0_off34 k | 3, 1 => k0_off36 k | 3, 2 => k0_off37 k | 3, 3 => k0_off38 k | 3, 4 => k0_off39 k | 3, 5 => k0_off40 k | 3, 6 => k0_off41 k | 3, 7 => k0_off42 k
  | 4, 0 => k0_off44 k | 4, 1 => k0_off46 k | 4, 2 => k0_off47 k | 4, 3 => k0_off48 k | 4, 4 => k0_off49 k | 4, 5 => k0_off50 k | 4, 6 => k0_off51 k | 4, 7 => k0_off52 k
  | 5, 0 => k0_off54 k | 5, 1 => k0_off56 k | 5, 2 => k0_off57 k | 5, 3 => k0_off58 k | 5, 4 => k0_off59 k | 5, 5 => k0_off60 k | 5, 6 => k0_off61 k | 5, 7 => k0_off62 k
  | 6, 0 => k0_off64 k | 6, 1 => k0_off66 k | 6, 2 => k0_off67 k | 6, 3 => k0_off68 k | 6, 4 => k0_off69 k | 6, 5 => k0_off70 k | 6, 6 => k0_off71 k | 6, 7 => k0_off72 k
  | 7, 0 => k0_off74 k | 7, 1 => k0_off76 k | 7, 2 => k0_off77 k | 7, 3 => k0_off78 k | 7, 4 => k0_off79 k | 7, 5 => k0_off80 k | 7, 6 => k0_off81 k | 7, 7 => k0_off82 k
  | 8, 0 => k0_off84 k | 8, 1 => k0_off86 k | 8, 2 => k0_off87 k | 8, 3 => k0_off88 k | 8, 4 => k0_off89 k | 8, 5 => k0_off90 k | 8, 6 => k0_off91 k | 8, 7 => k0_off92 k

/-- The offsets in closed form. -/
theorem offX_eq : ∀ (k : Fin k0_t1_loop.trips) (s : Fin 9) (q : Fin 2),
    offX k s (BitVec.ofNat 32 (128 * q.val)) = ![0, 128 * s.val, 256 * k.val + 128 * q.val] := by decide +kernel
theorem offO_eq : ∀ (k : Fin k0_t1_loop.trips) (s : Fin 9) (q : Fin 2) (g : Fin 4),
    offO k s (BitVec.ofNat 32 (128 * q.val)) (BitVec.ofNat 32 (32 * g.val)) = ![0, 256 * k.val + 128 * q.val + 32 * g.val, 128 * s.val] := by
  decide +kernel
theorem offR_eq : ∀ (k : Fin k0_t1_loop.trips) (s : Fin 9) (r : Fin 8), offR k s r = ![k.val, r.val, 128 * s.val] := by
  decide +kernel

theorem inbX (k : Fin k0_t1_loop.trips) (s : Fin 9) (q : Fin 2) :
    ∀ a, offX k s (BitVec.ofNat 32 (128 * q.val)) a + S1x128x128.size a ≤ S1x1152x4608.size a := by
  have hk : k.val < 18 := Nat.lt_of_lt_of_le k.isLt k0_t1_abs.2.1
  have hs := s.isLt; have hq := q.isLt
  rw [offX_eq]; intro a; match a with
  | ⟨0, _⟩ => show 0 + 1 ≤ 1; omega
  | ⟨1, _⟩ => show 128 * s.val + 128 ≤ 1152; omega
  | ⟨2, _⟩ => show 256 * k.val + 128 * q.val + 128 ≤ 4608; omega
theorem inbO (k : Fin k0_t1_loop.trips) (s : Fin 9) (q : Fin 2) (g : Fin 4) :
    ∀ a, offO k s (BitVec.ofNat 32 (128 * q.val)) (BitVec.ofNat 32 (32 * g.val)) a + S1x32x128.size a ≤ S1x4608x1152.size a := by
  have hk : k.val < 18 := Nat.lt_of_lt_of_le k.isLt k0_t1_abs.2.1
  have hs := s.isLt; have hq := q.isLt; have hg := g.isLt
  rw [offO_eq]; intro a; match a with
  | ⟨0, _⟩ => show 0 + 1 ≤ 1; omega
  | ⟨1, _⟩ => show 256 * k.val + 128 * q.val + 32 * g.val + 32 ≤ 4608; omega
  | ⟨2, _⟩ => show 128 * s.val + 128 ≤ 1152; omega
theorem inbR (k : Fin k0_t1_loop.trips) (s : Fin 9) (r : Fin 8) :
    ∀ a, offR k s r a + S1x1x128.size a ≤ S18x8x1152.size a := by
  have hk : k.val < 18 := Nat.lt_of_lt_of_le k.isLt k0_t1_abs.2.1
  have hs := s.isLt; have hr := r.isLt
  rw [offR_eq]; intro a; match a with
  | ⟨0, _⟩ => show k.val + 1 ≤ 18; omega
  | ⟨1, _⟩ => show r.val + 1 ≤ 8; omega
  | ⟨2, _⟩ => show 128 * s.val + 128 ≤ 1152; omega

/-- The 16 rows `32 g + 16 h …` of a 128 by 128 block are a slice. -/
theorem slicesG : ∀ (g : Fin 4) (h : Fin 2), S128x128.Slices ![32 * g.val + 16 * h.val, 0] S16x128 := by decide

/-- Sixteen columns of dequantised values: the codes' block transposed, its rows `32 g + 16 h …`, times the scale row
    spread over the rows and read as bf16. -/
def VAL (x : Vec F S1x128x128 .fp8e4m3) (r : Vec F S1x1x128 .i32) (g : Fin 4) (h : Fin 2) : FVec F S16x128 .bf16 :=
  mulf (extractStridedSlice S16x128 ![32 * g.val + 16 * h.val, 0]
      (transpose S128x128 [1, 0] (extf .bf16 (shapeCast S128x128 x shapeCasts_S1x128x128_S128x128 : FVec F S128x128 .fp8e4m3) bitsLt_fp8e4m3_bf16) transposes_S128x128_p1_0_S128x128)
      (slicesG g h))
    (bitcastToFloat .bf16 (bitcast S16x128 16 (broadcastTo S8x128 (shapeCast S1x128
      (shapeCast S1x128 r shapeCasts_S1x1x128_S1x128 : IVec S1x128 32) shapeCasts_S1x128_S1x128) broadcasts_S1x128_S8x128) bitcasts_S8x128_w32_S16x128_w16))

/-- Values times the inverse scale, clipped to the range of the result format. -/
def CLIP (v3 v : FVec F S16x128 .bf16) : FVec F S16x128 .bf16 :=
  minimumf (broadcast S16x128 (Scalar.truncf .bf16 bitsLt_bf16_f32 (Scalar.ofBits .f32 0x43E00000#32 : F .f32)))
    (maximumf (broadcast S16x128 (Scalar.truncf .bf16 bitsLt_bf16_f32 (Scalar.ofBits .f32 0xC3E00000#32 : F .f32))) (mulf v v3))

/-- One tile of results: 32 columns, each half clipped, rounded to the result format. -/
def TILE (v3 : FVec F S16x128 .bf16) (x : Vec F S1x128x128 .fp8e4m3) (r : Vec F S1x1x128 .i32) (g : Fin 4) : FVec F S1x32x128 .fp8e4m3 :=
  shapeCast S1x32x128 (truncf .fp8e4m3 (concatenate S32x128 0 [⟨S16x128, CLIP v3 (VAL x r g 0)⟩, ⟨S16x128, CLIP v3 (VAL x r g 1)⟩]
    concatenates_S16x128_S16x128_S32x128_d0 : FVec F S32x128 .bf16) bitsLt_fp8e4m3_bf16) shapeCasts_S32x128_S1x32x128

/-- The running largest magnitude after one more tile. -/
def STEP (acc : FVec F S16x128 .bf16) (x : Vec F S1x128x128 .fp8e4m3) (r : Vec F S1x1x128 .i32) (g : Fin 4) : FVec F S16x128 .bf16 :=
  maximumf (maximumf acc (absf (VAL x r g 0))) (absf (VAL x r g 1))

/-- The scale row of column groups `q`, `g`. -/
def rowOf (q : Fin 2) (g : Fin 4) : Fin 8 := match q, g with
  | 0, 0 => 0 | 0, 1 => 1 | 0, 2 => 2 | 0, 3 => 3 | 1, 0 => 4 | 1, 1 => 5 | 1, 2 => 6 | 1, 3 => 7
theorem rowOf_val : ∀ (q : Fin 2) (g : Fin 4), (rowOf q g).val = 4 * q.val + g.val := by decide

/-- The 72 tiles of a trip in the order of their stores, the last first. -/
def tilesDown : List (Fin 9 × Fin 2 × Fin 4) :=
  ([8, 7, 6, 5, 4, 3, 2, 1, 0] : List (Fin 9)).flatMap fun s => ([1, 0] : List (Fin 2)).flatMap fun q =>
    ([3, 2, 1, 0] : List (Fin 4)).map fun g => (s, q, g)
/-- The same, the first first. -/
def tilesUp : List (Fin 9 × Fin 2 × Fin 4) :=
  ([0, 1, 2, 3, 4, 5, 6, 7, 8] : List (Fin 9)).flatMap fun s => ([0, 1] : List (Fin 2)).flatMap fun q =>
    ([0, 1, 2, 3] : List (Fin 4)).map fun g => (s, q, g)
theorem mem_tilesDown : ∀ p : Fin 9 × Fin 2 × Fin 4, p ∈ tilesDown := by decide
theorem mem_tilesUp : ∀ p : Fin 9 × Fin 2 × Fin 4, p ∈ tilesUp := by decide

/-- One stored piece. -/
def piece (v3 : FVec F S16x128 .bf16) (k : Fin k0_t1_loop.trips) (xr : Fin 9 → Fin 2 → Vec F S1x128x128 .fp8e4m3)
    (rr : Fin 9 → Fin 8 → Vec F S1x1x128 .i32) (p : Fin 9 × Fin 2 × Fin 4) : View.Piece (Elt F) S1x4608x1152 .fp8e4m3 :=
  ⟨Rect.unit (s := S1x4608x1152) (offO k p.1 (BitVec.ofNat 32 (128 * p.2.1.val)) (BitVec.ofNat 32 (32 * p.2.2.val))) S1x32x128.size (inbO k p.1 p.2.1 p.2.2),
    TILE v3 (xr p.1 p.2.1) (rr p.1 (rowOf p.2.1 p.2.2)) p.2.2⟩

/-- The block of codes a trip reads for row group `s` and column group `q`. -/
abbrev xRead (arg3 : Memref sig .tc .vmem S1x1152x4608 .fp8e4m3) (X3 : BufTy.Contents (Elt F) arg3.view.ty) (k : Fin k0_t1_loop.trips)
    (s : Fin 9) (q : Fin 2) : Vec F S1x128x128 .fp8e4m3 :=
  View.readAt (Elt F) arg3.view (Rect.unit (s := S1x1152x4608) (offX k s (BitVec.ofNat 32 (128 * q.val))) S1x128x128.size (inbX k s q)).toLoadRect X3

/-- The scale row a trip reads back of the words it stored. -/
abbrev rRead (arg2 : Memref sig .tc .vmem S1x144x1152 .i8) (arg7 : Memref sig .tc .vmem S18x8x1152 .i32)
    (X2 : BufTy.Contents (Elt F) arg2.view.ty) (k : Fin k0_t1_loop.trips) (s : Fin 9) (r : Fin 8) : Vec F S1x1x128 .i32 :=
  arg7.view.readCov [(⟨Rect.unit (s := S18x8x1152) (k0_off2 k) S1x8x1152.size (k0_off2_inb k), k0_pay14 (View.readAt (Elt F) arg2.view (Rect.unit (s := S1x144x1152) (k0_off1 k) S1x8x1152.size (k0_off1_inb k)).toLoadRect X2)⟩ : View.Piece (Elt F) S18x8x1152 .i32)]
    (Rect.unit (s := S18x8x1152) (offR k s r) S1x1x128.size (inbR k s r)).toLoadRect

end Cert.KernelIdeal.Run

end
-- ==== Proof.Trip.lean ====
/- One trip of the kernel's column loop, as the run finds it, is the tiles' list and fold of `Tile`. -/
module

public import proofs.«01_k».proof.Proof.Tile
import all proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Cert.KernelIdeal.Gen

variable {F : FTy → Type} [FloatOps F]

set_option maxHeartbeats 16000000 in
/-- What a trip stores into the results. -/
theorem tripL_eq (𝒱 : Variants) (c : Dev nD) (bd : Option 𝒱.V) (i : grid0.Coords) (arg1 : Memref sig .tc .vmem S8x128 .f32) (harg1 : arg1.IsWhole) (arg2 : Memref sig .tc .vmem S1x144x1152 .i8) (harg2 : arg2.IsWhole) (arg3 : Memref sig .tc .vmem S1x1152x4608 .fp8e4m3) (harg3 : arg3.IsWhole) (arg4 : Memref sig .tc .vmem S1x4608x1152 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S18x8x1152 .i32) (harg7 : arg7.IsWhole) (arg8 : Memref sig .tc .vmem S16x128 .bf16) (harg8 : arg8.IsWhole) (arg9 : Memref sig .tc .vmem S8x2x128 .bf16) (harg9 : arg9.IsWhole) (v3 : Vec F S16x128 .bf16) (X_arg2 : BufTy.Contents (Elt F) arg2.view.ty) (X_arg3 : BufTy.Contents (Elt F) arg3.view.ty) (k : Fin k0_t1_loop.trips) (acc : FVec F S16x128 .bf16) (f4 : BufTy.Contents (Elt F) arg4.view.ty) (f7 : BufTy.Contents (Elt F) arg7.view.ty) :
    (trip_k0_t1 (F := F) 𝒱 c bd i arg1 harg1 arg2 harg2 arg3 harg3 arg4 harg4 arg5 harg5 arg6 harg6 arg7 harg7 arg8 harg8 arg9 harg9 v3 X_arg2 X_arg3 k).2.1 acc f4 f7
      = tilesDown.map (piece v3 k (xRead arg3 X_arg3 k) (rRead arg2 arg7 X_arg2 k)) := by
  unfold trip_k0_t1; dsimp only
  unfold tilesDown
  simp only [List.flatMap_cons, List.flatMap_nil, List.map_cons, List.map_nil, List.cons_append, List.nil_append, List.append_nil]
  repeat' (refine congrArg₂ List.cons ?_ ?_)
  all_goals rfl

set_option maxHeartbeats 16000000 in
/-- What a trip yields. -/
theorem tripR_eq (𝒱 : Variants) (c : Dev nD) (bd : Option 𝒱.V) (i : grid0.Coords) (arg1 : Memref sig .tc .vmem S8x128 .f32) (harg1 : arg1.IsWhole) (arg2 : Memref sig .tc .vmem S1x144x1152 .i8) (harg2 : arg2.IsWhole) (arg3 : Memref sig .tc .vmem S1x1152x4608 .fp8e4m3) (harg3 : arg3.IsWhole) (arg4 : Memref sig .tc .vmem S1x4608x1152 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S18x8x1152 .i32) (harg7 : arg7.IsWhole) (arg8 : Memref sig .tc .vmem S16x128 .bf16) (harg8 : arg8.IsWhole) (arg9 : Memref sig .tc .vmem S8x2x128 .bf16) (harg9 : arg9.IsWhole) (v3 : Vec F S16x128 .bf16) (X_arg2 : BufTy.Contents (Elt F) arg2.view.ty) (X_arg3 : BufTy.Contents (Elt F) arg3.view.ty) (k : Fin k0_t1_loop.trips) (acc : FVec F S16x128 .bf16) (f4 : BufTy.Contents (Elt F) arg4.view.ty) (f7 : BufTy.Contents (Elt F) arg7.view.ty) :
    (trip_k0_t1 (F := F) 𝒱 c bd i arg1 harg1 arg2 harg2 arg3 harg3 arg4 harg4 arg5 harg5 arg6 harg6 arg7 harg7 arg8 harg8 arg9 harg9 v3 X_arg2 X_arg3 k).1 acc f4 f7
      = tilesUp.foldl (fun a p => STEP a (xRead arg3 X_arg3 k p.1 p.2.1) (rRead arg2 arg7 X_arg2 k p.1 (rowOf p.2.1 p.2.2)) p.2.2) acc := by
  unfold trip_k0_t1; dsimp only
  unfold tilesUp
  simp only [List.flatMap_cons, List.flatMap_nil, List.map_cons, List.map_nil, List.cons_append, List.nil_append, List.append_nil, List.foldl_cons, List.foldl_nil]
  rfl

end Cert.KernelIdeal.Run

end
-- ==== Proof.Loop.lean ====
/- All the trips of the column loop: what the loop yields and the pieces it stores, as recursions over the trips on the
   contents of the two blocks it reads; the pieces cover the block of results. -/
module

public import proofs.«01_k».proof.Proof.Trip
public import Idealize.ShloMosaic.Lib.Pipeline.FrameBody
public import Idealize.ShloMosaic.Lib.Pipeline.Value
public import Idealize.ShloMosaic.Lib.Pipeline.ValueKit.Tiles

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Cert.KernelIdeal.Gen

variable {F : FTy → Type} [FloatOps F]

/-- The block of codes of row group `s` and column group `q`, of the contents `x2`. -/
def xs (x2 : Vec F S1x1152x4608 .fp8e4m3) (k : Fin k0_t1_loop.trips) (s : Fin 9) (q : Fin 2) : Vec F S1x128x128 .fp8e4m3 :=
  View.ld (Val := Elt F) (e' := .fp8e4m3) x2 (Rect.unit (s := S1x1152x4608) (offX k s (BitVec.ofNat 32 (128 * q.val))) S1x128x128.size (inbX k s q))

/-- The eight scale rows of a trip as it stores them, of the contents `x1`. -/
def words (x1 : Vec F S1x144x1152 .i8) (k : Fin k0_t1_loop.trips) : Vec F S1x8x1152 .i32 :=
  k0_pay14 (F := F) (View.ld (Val := Elt F) (e' := .i8) x1 (Rect.unit (s := S1x144x1152) (k0_off1 k) S1x8x1152.size (k0_off1_inb k)))

/-- Row `r` of them at row group `s`. -/
def rs (x1 : Vec F S1x144x1152 .i8) (k : Fin k0_t1_loop.trips) (s : Fin 9) (r : Fin 8) : Vec F S1x1x128 .i32 :=
  fun j => View.canon (Val := Elt F) [(⟨Rect.unit (s := S18x8x1152) (k0_off2 k) S1x8x1152.size (k0_off2_inb k), words x1 k⟩ : View.Piece (Elt F) S18x8x1152 .i32)]
    ((Rect.unit (s := S18x8x1152) (offR k s r) S1x1x128.size (inbR k s r)).toLoadRect.idx j)

/-- What one trip yields of the carried value. -/
def tripACC (x1 : Vec F S1x144x1152 .i8) (x2 : Vec F S1x1152x4608 .fp8e4m3) (k : Fin k0_t1_loop.trips) (acc : FVec F S16x128 .bf16) : FVec F S16x128 .bf16 :=
  tilesUp.foldl (fun a p => STEP a (xs x2 k p.1 p.2.1) (rs x1 k p.1 (rowOf p.2.1 p.2.2)) p.2.2) acc

/-- What one trip stores. -/
def tripOUT (v3 : FVec F S16x128 .bf16) (x1 : Vec F S1x144x1152 .i8) (x2 : Vec F S1x1152x4608 .fp8e4m3) (k : Fin k0_t1_loop.trips) :
    List (View.Piece (Elt F) S1x4608x1152 .fp8e4m3) :=
  tilesDown.map (piece v3 k (xs x2 k) (rs x1 k))

/-- The carried value before trip `n`. -/
def loopACC (x1 : Vec F S1x144x1152 .i8) (x2 : Vec F S1x1152x4608 .fp8e4m3) (acc : FVec F S16x128 .bf16) : Nat → FVec F S16x128 .bf16
  | 0 => acc
  | n + 1 => if h : n < k0_t1_loop.trips then tripACC x1 x2 ⟨n, h⟩ (loopACC x1 x2 acc n) else loopACC x1 x2 acc n

/-- The pieces stored before trip `n`. -/
def loopOUT (v3 : FVec F S16x128 .bf16) (x1 : Vec F S1x144x1152 .i8) (x2 : Vec F S1x1152x4608 .fp8e4m3) : Nat → List (View.Piece (Elt F) S1x4608x1152 .fp8e4m3)
  | 0 => []
  | n + 1 => if h : n < k0_t1_loop.trips then tripOUT v3 x1 x2 ⟨n, h⟩ ++ loopOUT v3 x1 x2 n else loopOUT v3 x1 x2 n

/-- The carried value after the loop, -/
def accOut (x1 : Vec F S1x144x1152 .i8) (x2 : Vec F S1x1152x4608 .fp8e4m3) (acc : FVec F S16x128 .bf16) : FVec F S16x128 .bf16 :=
  loopACC x1 x2 acc k0_t1_loop.trips
/-- and the results it leaves. -/
def codesOut (v3 : FVec F S16x128 .bf16) (x1 : Vec F S1x144x1152 .i8) (x2 : Vec F S1x1152x4608 .fp8e4m3) : Vec F S1x4608x1152 .fp8e4m3 :=
  View.canon (Val := Elt F) (e := .fp8e4m3) (loopOUT v3 x1 x2 k0_t1_loop.trips)

theorem rRead_eq (arg2 : Memref sig .tc .vmem S1x144x1152 .i8) (arg7 : Memref sig .tc .vmem S18x8x1152 .i32)
    (X2 : BufTy.Contents (Elt F) arg2.view.ty) (k : Fin k0_t1_loop.trips) :
    rRead arg2 arg7 X2 k = rs (arg2.view.read (Elt F) X2) k := by
  funext s r; exact View.readCov_eq_canon' _ _ _

/-- The state of the loop before trip `n`, in these terms. -/
theorem st_eq (𝒱 : Variants) (c : Dev nD) (bd : Option 𝒱.V) (i : grid0.Coords) (arg1 : Memref sig .tc .vmem S8x128 .f32) (harg1 : arg1.IsWhole) (arg2 : Memref sig .tc .vmem S1x144x1152 .i8) (harg2 : arg2.IsWhole) (arg3 : Memref sig .tc .vmem S1x1152x4608 .fp8e4m3) (harg3 : arg3.IsWhole) (arg4 : Memref sig .tc .vmem S1x4608x1152 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S18x8x1152 .i32) (harg7 : arg7.IsWhole) (arg8 : Memref sig .tc .vmem S16x128 .bf16) (harg8 : arg8.IsWhole) (arg9 : Memref sig .tc .vmem S8x2x128 .bf16) (harg9 : arg9.IsWhole) (v3 : Vec F S16x128 .bf16) (X_arg2 : BufTy.Contents (Elt F) arg2.view.ty) (X_arg3 : BufTy.Contents (Elt F) arg3.view.ty) (G_arg4 : BufTy.Contents (Elt F) arg4.view.ty) (G_arg7 : BufTy.Contents (Elt F) arg7.view.ty) (init : FVec F S16x128 .bf16) (n : Nat) (hn : n ≤ k0_t1_loop.trips) :
    (st_k0_t1 (F := F) 𝒱 c bd i arg1 harg1 arg2 harg2 arg3 harg3 arg4 harg4 arg5 harg5 arg6 harg6 arg7 harg7 arg8 harg8 arg9 harg9 v3 X_arg2 X_arg3 G_arg4 G_arg7 init n).1 = loopACC (arg2.view.read (Elt F) X_arg2) (arg3.view.read (Elt F) X_arg3) init n
    ∧ (st_k0_t1 (F := F) 𝒱 c bd i arg1 harg1 arg2 harg2 arg3 harg3 arg4 harg4 arg5 harg5 arg6 harg6 arg7 harg7 arg8 harg8 arg9 harg9 v3 X_arg2 X_arg3 G_arg4 G_arg7 init n).2.1 = loopOUT v3 (arg2.view.read (Elt F) X_arg2) (arg3.view.read (Elt F) X_arg3) n := by
  induction n with
  | zero => exact ⟨rfl, rfl⟩
  | succ n ih =>
    have hlt : n < k0_t1_loop.trips := hn
    obtain ⟨e1, e2⟩ := ih (Nat.le_of_lt hlt)
    rw [show st_k0_t1 (F := F) 𝒱 c bd i arg1 harg1 arg2 harg2 arg3 harg3 arg4 harg4 arg5 harg5 arg6 harg6 arg7 harg7 arg8 harg8 arg9 harg9 v3 X_arg2 X_arg3 G_arg4 G_arg7 init (n + 1) = _ from st_k0_t1_succ (F := F) 𝒱 c bd i arg1 harg1 arg2 harg2 arg3 harg3 arg4 harg4 arg5 harg5 arg6 harg6 arg7 harg7 arg8 harg8 arg9 harg9 v3 X_arg2 X_arg3 G_arg4 G_arg7 init ⟨n, hlt⟩]
    constructor
    · unfold tripR_k0_t1; rw [tripR_eq, e1]
      simp only [loopACC, dif_pos hlt, tripACC]
      rw [rRead_eq]; rfl
    · unfold tripL_k0_t1; dsimp only; rw [tripL_eq, e2]
      simp only [loopOUT, dif_pos hlt, tripOUT]
      rw [rRead_eq]; rfl

/-- The pieces of the trips before `n` cover the columns below `256 n`. -/
theorem loopOUT_cover (v3 : FVec F S16x128 .bf16) (x1 : Vec F S1x144x1152 .i8) (x2 : Vec F S1x1152x4608 .fp8e4m3) (n : Nat) (hn : n ≤ k0_t1_loop.trips)
    (y : S1x4608x1152.Idx) (hy : (y 1).val < 256 * n) : ∃ p ∈ loopOUT v3 x1 x2 n, y ∈ p.1.set := by
  induction n with
  | zero => omega
  | succ n ih =>
    have hlt : n < k0_t1_loop.trips := hn
    simp only [loopOUT, dif_pos hlt]
    by_cases h : (y 1).val < 256 * n
    · obtain ⟨p, hp, hyp⟩ := ih (Nat.le_of_lt hlt) h
      exact ⟨p, List.mem_append_right _ hp, hyp⟩
    · have hs : (y 2).val < 1152 := (y 2).isLt
      let s : Fin 9 := ⟨(y 2).val / 128, by omega⟩
      let q : Fin 2 := ⟨((y 1).val - 256 * n) / 128, by omega⟩
      let g : Fin 4 := ⟨((y 1).val - 256 * n) % 128 / 32, by omega⟩
      refine ⟨piece v3 ⟨n, hlt⟩ (xs x2 ⟨n, hlt⟩) (rs x1 ⟨n, hlt⟩) (s, q, g), List.mem_append_left _ (List.mem_map_of_mem (mem_tilesDown _)), ?_⟩
      show y ∈ (Rect.unit (s := S1x4608x1152) _ _ (inbO ⟨n, hlt⟩ s q g)).set
      rw [Rect.mem_set_unit]
      intro a
      rw [offO_eq]
      match a with
      | ⟨0, _⟩ => have h0 : (y 0).val < 1 := (y 0).isLt; exact ⟨Nat.zero_le _, by show (y 0).val < 0 + 1; omega⟩
      | ⟨1, _⟩ =>
        constructor
        · show 256 * n + 128 * (((y 1).val - 256 * n) / 128) + 32 * (((y 1).val - 256 * n) % 128 / 32) ≤ (y 1).val; omega
        · show (y 1).val < 256 * n + 128 * (((y 1).val - 256 * n) / 128) + 32 * (((y 1).val - 256 * n) % 128 / 32) + 32; omega
      | ⟨2, _⟩ =>
        constructor
        · show 128 * ((y 2).val / 128) ≤ (y 2).val; omega
        · show (y 2).val < 128 * ((y 2).val / 128) + 128; omega

theorem trips_eq : k0_t1_loop.trips = 18 := by decide +kernel

/-- The loop's pieces cover the results. -/
theorem loopOUT_covers (v3 : FVec F S16x128 .bf16) (x1 : Vec F S1x144x1152 .i8) (x2 : Vec F S1x1152x4608 .fp8e4m3)
    (y : S1x4608x1152.Idx) : ∃ p ∈ loopOUT v3 x1 x2 k0_t1_loop.trips, y ∈ p.1.set :=
  loopOUT_cover v3 x1 x2 _ le_rfl y (by have := trips_eq; have : (y 1).val < 4608 := (y 1).isLt; omega)

end Cert.KernelIdeal.Run

end
-- ==== Proof.ValueBody.lean ====
/- One grid point of the idealized kernel with its values: what the body leaves in the result blocks and in the two scratch
   buffers carried from point to point, of what it finds there and of the blocks it reads. -/
module

public import proofs.«01_k».proof.Proof.Loop
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The exponent field's search on the history `x0`: the field, -/
def field (x0 : Vec F S8x128 .f32) : IVec S8x128 32 := k0_pay12 (k0_pay9 x0) (k0_pay10 x0) (k0_pay11 x0)
/-- and whether it is one of the two ends. -/
def fieldEnd (x0 : Vec F S8x128 .f32) : IVec S8x128 1 := k0_pay13 (k0_pay9 x0) (k0_pay10 x0) (k0_pay11 x0)
/-- The scale the first point stores, -/
def scaleOf (x0 : Vec F S8x128 .f32) : Vec F S1x1 .f32 := k0_pay2 (k0_pay8 x0) (field x0) (fieldEnd x0) (Scalar.ofBits .f32 0x00000000#32 : F .f32)
/-- and the inverse scale it keeps. -/
def invOf (x0 : Vec F S8x128 .f32) : Vec F S16x128 .bf16 := k0_pay3 (k0_pay8 x0) (field x0) (fieldEnd x0) (Scalar.ofBits .f32 0x00000000#32 : F .f32)
/-- The zero the running maximum starts from. -/
def zero9 : Vec F S8x2x128 .bf16 := constant S8x2x128 .bf16 0x0000#16
/-- The running maximum after one point. -/
def acc9 (x1 : Vec F S1x144x1152 .i8) (x2 : Vec F S1x1152x4608 .fp8e4m3) (a : Vec F S8x2x128 .bf16) : Vec F S8x2x128 .bf16 :=
  k0_pay6 (accOut x1 x2 (k0_pay4 a))

/-- The inverse scale a point works with, -/
def invAt (i : grid0.Coords) (x0 : Vec F S8x128 .f32) (v3 : Vec F S16x128 .bf16) : Vec F S16x128 .bf16 := if k0_cond1 i = 1#1 then invOf x0 else v3
/-- the running maximum it starts from, -/
def accAt (i : grid0.Coords) (a : Vec F S8x2x128 .bf16) : Vec F S8x2x128 .bf16 := if k0_cond1 i = 1#1 then zero9 else a
/-- the scale block it leaves, -/
def scaleAt (i : grid0.Coords) (x0 : Vec F S8x128 .f32) (d4 : Vec F S1x1 .f32) : Vec F S1x1 .f32 := if k0_cond1 i = 1#1 then scaleOf x0 else d4
/-- and the block of the overall maximum it leaves. -/
def amaxAt (i : grid0.Coords) (a : Vec F S8x2x128 .bf16) (d5 : Vec F S1x1 .f32) : Vec F S1x1 .f32 := if k0_cond2 i = 1#1 then k0_pay7 a else d5

theorem off2_zero : (![0, 0] : Fin 2 → Nat) = fun _ => 0 := by funext a; match a with | 0 => rfl | 1 => rfl
theorem off3_zero : (![0, 0, 0] : Fin 3 → Nat) = fun _ => 0 := by funext a; match a with | 0 => rfl | 1 => rfl | 2 => rfl

/-- A whole buffer read through its whole rectangle. -/
theorem readAt_whole {S : Shape} {e : EltTy} {arg : Memref sig .tc .vmem S e} (harg : arg.IsWhole) (x : S.Idx → Elt F e)
    {off : Fin S.rank → Nat} (h : off = fun _ => 0) (inb : ∀ a, off a + S.size a ≤ S.size a) :
    View.readAt (Elt F) arg.view (Rect.unit (s := S) off S.size inb).toLoadRect (harg.unread x) = x := by
  refine (View.readAt_eq_ld _ _ _).trans ?_
  rw [harg.read_unread]; exact View.ld_unit_zero h inb x

/-- A whole buffer stored through its whole rectangle, read back. -/
theorem read_whole {S : Shape} {e : EltTy} (v : View sig .tc .vmem S e) (f : v.ty.Contents (Elt F)) (w : S.Idx → Elt F e)
    (L : List (View.Piece (Elt F) S e)) {off : Fin S.rank → Nat} (h : off = fun _ => 0) (inb : ∀ a, off a + S.size a ≤ S.size a) :
    v.read (Elt F) (v.writes (Elt F) f ((⟨Rect.unit (s := S) off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- What the loop leaves in the block of results, -/
theorem st_codes (𝒱 : Variants) (c : Dev nD) (bd : Option 𝒱.V) (i : grid0.Coords) (arg1 : Memref sig .tc .vmem S8x128 .f32) (harg1 : arg1.IsWhole) (arg2 : Memref sig .tc .vmem S1x144x1152 .i8) (harg2 : arg2.IsWhole) (arg3 : Memref sig .tc .vmem S1x1152x4608 .fp8e4m3) (harg3 : arg3.IsWhole) (arg4 : Memref sig .tc .vmem S1x4608x1152 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S18x8x1152 .i32) (harg7 : arg7.IsWhole) (arg8 : Memref sig .tc .vmem S16x128 .bf16) (harg8 : arg8.IsWhole) (arg9 : Memref sig .tc .vmem S8x2x128 .bf16) (harg9 : arg9.IsWhole) (v3 : Vec F S16x128 .bf16) (X_arg2 : BufTy.Contents (Elt F) arg2.view.ty) (X_arg3 : BufTy.Contents (Elt F) arg3.view.ty) (G_arg4 : BufTy.Contents (Elt F) arg4.view.ty) (G_arg7 : BufTy.Contents (Elt F) arg7.view.ty) (init : FVec F S16x128 .bf16) (v : FVec F S16x128 .bf16) (x1 : Vec F S1x144x1152 .i8) (x2 : Vec F S1x1152x4608 .fp8e4m3)
    (h1 : arg2.view.read (Elt F) X_arg2 = x1) (h2 : arg3.view.read (Elt F) X_arg3 = x2) (hv : v3 = v) :
    arg4.view.read (Elt F) (arg4.view.writes (Elt F) G_arg4 (st_k0_t1 (F := F) 𝒱 c bd i arg1 harg1 arg2 harg2 arg3 harg3 arg4 harg4 arg5 harg5 arg6 harg6 arg7 harg7 arg8 harg8 arg9 harg9 v3 X_arg2 X_arg3 G_arg4 G_arg7 init k0_t1_loop.trips).2.1) = codesOut v x1 x2 := by
  subst h1 h2 hv
  rw [(st_eq 𝒱 c bd i arg1 harg1 arg2 harg2 arg3 harg3 arg4 harg4 arg5 harg5 arg6 harg6 arg7 harg7 arg8 harg8 arg9 harg9 v3 X_arg2 X_arg3 G_arg4 G_arg7 init _ le_rfl).2]
  exact View.read_writes_eq_canon _ _ _ (loopOUT_covers _ _ _)

/-- and what it yields. -/
theorem st_acc (𝒱 : Variants) (c : Dev nD) (bd : Option 𝒱.V) (i : grid0.Coords) (arg1 : Memref sig .tc .vmem S8x128 .f32) (harg1 : arg1.IsWhole) (arg2 : Memref sig .tc .vmem S1x144x1152 .i8) (harg2 : arg2.IsWhole) (arg3 : Memref sig .tc .vmem S1x1152x4608 .fp8e4m3) (harg3 : arg3.IsWhole) (arg4 : Memref sig .tc .vmem S1x4608x1152 .fp8e4m3) (harg4 : arg4.IsWhole) (arg5 : Memref sig .tc .vmem S1x1 .f32) (harg5 : arg5.IsWhole) (arg6 : Memref sig .tc .vmem S1x1 .f32) (harg6 : arg6.IsWhole) (arg7 : Memref sig .tc .vmem S18x8x1152 .i32) (harg7 : arg7.IsWhole) (arg8 : Memref sig .tc .vmem S16x128 .bf16) (harg8 : arg8.IsWhole) (arg9 : Memref sig .tc .vmem S8x2x128 .bf16) (harg9 : arg9.IsWhole) (v3 : Vec F S16x128 .bf16) (X_arg2 : BufTy.Contents (Elt F) arg2.view.ty) (X_arg3 : BufTy.Contents (Elt F) arg3.view.ty) (G_arg4 : BufTy.Contents (Elt F) arg4.view.ty) (G_arg7 : BufTy.Contents (Elt F) arg7.view.ty) (init : FVec F S16x128 .bf16) (a : FVec F S16x128 .bf16) (x1 : Vec F S1x144x1152 .i8) (x2 : Vec F S1x1152x4608 .fp8e4m3)
    (h1 : arg2.view.read (Elt F) X_arg2 = x1) (h2 : arg3.view.read (Elt F) X_arg3 = x2) (ha : init = a) :
    (st_k0_t1 (F := F) 𝒱 c bd i arg1 harg1 arg2 harg2 arg3 harg3 arg4 harg4 arg5 harg5 arg6 harg6 arg7 harg7 arg8 harg8 arg9 harg9 v3 X_arg2 X_arg3 G_arg4 G_arg7 init k0_t1_loop.trips).1 = accOut x1 x2 a := by
  subst h1 h2 ha
  exact (st_eq 𝒱 c bd i arg1 harg1 arg2 harg2 arg3 harg3 arg4 harg4 arg5 harg5 arg6 harg6 arg7 harg7 arg8 harg8 arg9 harg9 v3 X_arg2 X_arg3 G_arg4 G_arg7 init _ le_rfl).1

set_option maxHeartbeats 9600000 in
/-- The body on whole memrefs, with its values. -/
theorem body_value (c : Dev nD) (i : grid0.Coords) (arg1 : Memref sig .tc .vmem S8x128 .f32) (harg1 : arg1.IsWhole)
    (arg2 : Memref sig .tc .vmem S1x144x1152 .i8) (harg2 : arg2.IsWhole) (arg3 : Memref sig .tc .vmem S1x1152x4608 .fp8e4m3) (harg3 : arg3.IsWhole)
    (arg4 : Memref sig .tc .vmem S1x4608x1152 .fp8e4m3) (harg4 : arg4.IsWhole) (arg5 : Memref sig .tc .vmem S1x1 .f32) (harg5 : arg5.IsWhole)
    (arg6 : Memref sig .tc .vmem S1x1 .f32) (harg6 : arg6.IsWhole) (arg7 : Memref sig .tc .vmem S18x8x1152 .i32) (harg7 : arg7.IsWhole)
    (arg8 : Memref sig .tc .vmem S16x128 .bf16) (harg8 : arg8.IsWhole) (arg9 : Memref sig .tc .vmem S8x2x128 .bf16) (harg9 : arg9.IsWhole)
    (x0 : Vec F S8x128 .f32) (x1 : Vec F S1x144x1152 .i8) (x2 : Vec F S1x1152x4608 .fp8e4m3)
    (d4 d5 : Vec F S1x1 .f32) (v3 : Vec F S16x128 .bf16) (a : Vec F S8x2x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ (∃ d, owns (c : Thread nD τ) arg7 fullShare d) ∗ owns (c : Thread nD τ) arg8 fullShare v3 ∗ owns (c : Thread nD τ) arg9 fullShare a
        ∗ (iprop(owns (c : Thread nD τ) arg1 fullShare x0 ∗ owns (c : Thread nD τ) arg2 fullShare x1 ∗ owns (c : Thread nD τ) arg3 fullShare x2
            ∗ owns (c : Thread nD τ) arg4 fullShare (codesOut (invAt i x0 v3) x1 x2)
            ∗ owns (c : Thread nD τ) arg5 fullShare (scaleAt i x0 d4)
            ∗ owns (c : Thread nD τ) arg6 fullShare (amaxAt i (acc9 x1 x2 (accAt i a)) d5)
            ∗ (∃ d, owns (c : Thread nD τ) arg7 fullShare d)
            ∗ owns (c : Thread nD τ) arg8 fullShare (invAt i x0 v3)
            ∗ owns (c : Thread nD τ) arg9 fullShare (acc9 x1 x2 (accAt i a))) -∗ K ⟨⟩))
      ⊢ wp frame (wpE (defs₀ (F := F)) Variants.none c none) E (cc0_mxfp8_col_requant i arg1 harg1 arg2 harg2 arg3 harg3 arg4 harg4 arg5 harg5 arg6 harg6 arg7 harg7 arg8 harg8 arg9 harg9) K := by
  simp only [cc0_mxfp8_col_requant_eq_skeleton]; unfold cc0_mxfp8_col_requant_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2
  obtain rfl := harg5.eq_unread hf4; obtain rfl := harg6.eq_unread hf5; obtain rfl := harg8.eq_unread hf7; obtain rfl := harg9.eq_unread hf8
  have r0 := readAt_whole harg1 x0 off2_zero inb_S8x128_S8x128_0_0
  have r7 := readAt_whole harg8 v3 off2_zero inb_S16x128_S16x128_0_0
  have r8 := readAt_whole harg9 a off3_zero inb_S8x2x128_S8x2x128_0_0_0
  by_cases hc0 : k0_cond1 i = 1#1 <;> by_cases hc1 : k0_cond2 i = 1#1
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine st_codes _ _ _ _ _ _ _ _ _ _ _ _ _ _ _ _ _ _ _ _ _ _ _ _ _ _ _ _ _ _ _ (harg2.read_unread _) (harg3.read_unread _) ?_
      first
        | (rw [invAt, if_pos hc0]; sl_unfold_words; exact View.readCov_unit_zero _ off2_zero _ _)
        | (rw [invAt, if_neg hc0]; first | done | exact r7)
    isplitl [H4]
    · iexists _; isplitr; swap; · iexact H4
      ipureintro
      first
        | (rw [scaleAt, if_pos hc0]; sl_unfold_words; exact read_whole _ _ _ _ off2_zero _)
        | (rw [scaleAt, if_neg hc0]; exact hf4)
    isplitl [H5]
    · iexists _; isplitr; swap; · iexact H5
      ipureintro
      first
        | (rw [amaxAt, if_neg hc1]; exact hf5)
        | rw [amaxAt, if_pos hc1]
          refine (read_whole _ _ _ _ off2_zero _).trans (congrArg k0_pay7 ?_)
          sl_unfold_words
          refine (View.readCov_cons_toLoadRect _ _ _ _).trans (congrArg k0_pay6 ?_)
          refine st_acc _ _ _ _ _ _ _ _ _ _ _ _ _ _ _ _ _ _ _ _ _ _ _ _ _ _ _ _ _ _ _ (harg2.read_unread _) (harg3.read_unread _) (congrArg k0_pay4 ?_)
          first
            | (rw [accAt, if_pos hc0]; exact View.readCov_unit_zero _ off3_zero _ _)
            | (rw [accAt, if_neg hc0]; first | done | exact r8)
    isplitl [H6]
    · iexists _, _; isplitr; swap; · iexact H6
      ipureintro; rfl
    isplitl [H7]
    · iexists _; isplitr; swap; · iexact H7
      ipureintro
      first
        | (rw [invAt, if_pos hc0]; sl_unfold_words; exact read_whole _ _ _ _ off2_zero _)
        | (rw [invAt, if_neg hc0]; exact hf7)
    iexists _; isplitr; swap; · iexact H8
    ipureintro
    sl_unfold_words
    refine (read_whole _ _ _ _ off3_zero _).trans (congrArg k0_pay6 ?_)
    refine st_acc _ _ _ _ _ _ _ _ _ _ _ _ _ _ _ _ _ _ _ _ _ _ _ _ _ _ _ _ _ _ _ (harg2.read_unread _) (harg3.read_unread _) (congrArg k0_pay4 ?_)
    first
      | (rw [accAt, if_pos hc0]; exact View.readCov_unit_zero _ off3_zero _ _)
      | (rw [accAt, if_neg hc0]; first | done | exact r8)

end Cert.KernelIdeal.Run

end
-- ==== Proof.ValueRun.lean ====
/- The run of the idealized kernel with its values: at every point the block of results, the scale kept from the first point, the
   running maximum carried in scratch and stored at the last point. -/
module

public import proofs.«01_k».proof.Proof.ValueBody
public import proofs.«01_k».proof.Proof.KernelIdealFrame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 32 points. -/
theorem N_eq : cfg0.N = 32 := N_0

theorem lt32 (t : Fin cfg0.N) : t.val < 32 := lt_of_lt_of_eq t.isLt N_eq

/-- The point numbered `n`. -/
def tOf (n : ℕ) : Fin cfg0.N := ⟨n % 32, by rw [N_eq]; exact Nat.mod_lt _ (by decide)⟩
theorem tOf_val (t : Fin cfg0.N) : tOf t.val = t := Fin.ext (Nat.mod_eq_of_lt (lt32 t))

/-- The history's block. -/
def hist (c : Dev nD) : Vec F S8x128 .f32 := iblk m c 0 (tOf 0)
/-- It is the same at every point. -/
theorem iblk0_eq (c : Dev nD) (t : Fin cfg0.N) : iblk m c 0 t = hist m c := rfl

/-- The running maximum after point `n`. -/
def accN (c : Dev nD) : ℕ → Vec F S8x2x128 .bf16
  | 0 => acc9 (iblk m c 1 (tOf 0)) (iblk m c 2 (tOf 0)) zero9
  | n + 1 => acc9 (iblk m c 1 (tOf (n + 1))) (iblk m c 2 (tOf (n + 1))) (accN c n)

/-- What the scratch holds before point `n`: after the first point the inverse scale and the running maximum. -/
def PhiS (c : Dev nD) (n : ℕ) : sProp 𝕄 :=
  iprop(((∃ d, owns (c : Thread nD τ) scM0_0 fullShare d)
      ∗ (∃ v, ⌜n ≠ 0 → v = invOf (hist m c)⌝ ∗ owns (c : Thread nD τ) scM0_1 fullShare v)
      ∗ (∃ a, ⌜n ≠ 0 → a = accN m c (n - 1)⌝ ∗ owns (c : Thread nD τ) scM0_2 fullShare a)) ∗ (∃ r, prngReg c r))

/-- The proof data on core `c`: every result named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOut (invOf (hist m c)) (iblk m c 1 t) (iblk m c 2 t)
    | ⟨4, _⟩ => scaleOf (hist m c)
    | ⟨5, _⟩ => k0_pay7 (accN m c t.val)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesOut (invOf (hist m c)) (iblk m c 1 t) (iblk m c 2 t) := by dsimp only [dats]
theorem after0_4 (c : Dev nD) (t : Fin cfg0.N) : (dats m 0 c).after 4 t = scaleOf (hist m c) := by dsimp only [dats]
theorem after0_5 (c : Dev nD) (t : Fin cfg0.N) : (dats m 0 c).after 5 t = k0_pay7 (accN m c t.val) := by dsimp only [dats]
theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The first conditional holds at the first point only, -/
theorem cond1_iff (t : Fin cfg0.N) : k0_cond1 (grid0.coords t) = 1#1 ↔ t.val = 0 := by
  have e0 : (grid0.coords t 0).val = t.val / 1 % 32 := Pipeline.Grid.coords_val t 0 (by decide) rfl
  have ht := lt32 t
  have : (grid0.coords t 0).val = t.val := by omega
  unfold k0_cond1; simp only [this]
  generalize t.val = n at ht ⊢
  revert n; decide
/-- the second at the last. -/
theorem cond2_iff (t : Fin cfg0.N) : k0_cond2 (grid0.coords t) = 1#1 ↔ t.val = 31 := by
  have e0 : (grid0.coords t 0).val = t.val / 1 % 32 := Pipeline.Grid.coords_val t 0 (by decide) rfl
  have ht := lt32 t
  have : (grid0.coords t 0).val = t.val := by omega
  unfold k0_cond2; simp only [this]
  generalize t.val = n at ht ⊢
  revert n; decide

theorem live3 (t : Fin cfg0.N) : cfg0.idle 3 (grid0.coords t) = false := rfl
theorem idle4 (t : Fin cfg0.N) : cfg0.idle 4 (grid0.coords t) = !(k0_cond1 (grid0.coords t) == 1#1) := rfl
theorem idle5 (t : Fin cfg0.N) : cfg0.idle 5 (grid0.coords t) = !(k0_cond2 (grid0.coords t) == 1#1) := rfl
theorem live4 (t : Fin cfg0.N) (h : t.val = 0) : cfg0.idle 4 (grid0.coords t) = false := by
  rw [idle4, (cond1_iff t).mpr h]; rfl
theorem idle4_pos (t : Fin cfg0.N) (h : t.val ≠ 0) : cfg0.idle 4 (grid0.coords t) = true := by
  rw [idle4]; have := mt (cond1_iff t).mp h; simp [this]
theorem live5 (t : Fin cfg0.N) (h : t.val = 31) : cfg0.idle 5 (grid0.coords t) = false := by
  rw [idle5, (cond2_iff t).mpr h]; rfl
theorem idle5_pos (t : Fin cfg0.N) (h : t.val ≠ 31) : cfg0.idle 5 (grid0.coords t) = true := by
  rw [idle5]; have := mt (cond2_iff t).mp h; simp [this]
theorem noflush4 (t : Fin cfg0.N) (h : t.val ≠ 31) : (cfg0.win 4).flush t = false := by
  have ht := lt32 t
  exact Bool.eq_false_iff.mpr fun e => h (by have := (flush0_4 t).mp e; omega)
theorem noflush5 (t : Fin cfg0.N) (h : t.val ≠ 31) : (cfg0.win 5).flush t = false := by
  have ht := lt32 t
  exact Bool.eq_false_iff.mpr fun e => h (by have := (flush0_5 t).mp e; omega)

/-- After the first point the scale's buffer holds the scale. -/
theorem before0_4 (c : Dev nD) : ∀ (n : ℕ) (t : Fin cfg0.N), t.val = n + 1 → ∀ d, (dats m 0 c).before 4 t d = scaleOf (hist m c)
  | n, t, ht, d => by
    have hlt := lt32 t
    rw [Dat.before_of_pos _ 4 t (by omega) rfl d]
    rw [noflush4 ⟨t.val - 1, _⟩ (by show t.val - 1 ≠ 31; omega), if_neg Bool.false_ne_true]
    unfold Dat.left
    match n, ht with
    | 0, ht =>
      rw [live4 ⟨t.val - 1, _⟩ (by show t.val - 1 = 0; omega)]
      exact (show (dats m 0 c).kept 4 _ d = (dats m 0 c).after 4 _ from rfl).trans (after0_4 m c _)
    | n + 1, ht =>
      rw [idle4_pos ⟨t.val - 1, _⟩ (by show t.val - 1 ≠ 0; omega)]
      exact before0_4 c n ⟨t.val - 1, _⟩ (by show t.val - 1 = n + 1; omega) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The inverse scale a point works with is the history's. -/
theorem invAt_eq (c : Dev nD) (t : Fin cfg0.N) (v : Vec F S16x128 .bf16) (h : t.val ≠ 0 → v = invOf (hist m c)) :
    invAt (grid0.coords t) (hist m c) v = invOf (hist m c) := by
  unfold invAt
  by_cases hc : k0_cond1 (grid0.coords t) = 1#1
  · rw [if_pos hc]
  · rw [if_neg hc]; exact h (mt (cond1_iff t).mpr hc)

/-- The running maximum after a point. -/
theorem acc9_eq (c : Dev nD) (t : Fin cfg0.N) (a : Vec F S8x2x128 .bf16) (h : t.val ≠ 0 → a = accN m c (t.val - 1)) :
    acc9 (iblk m c 1 t) (iblk m c 2 t) (accAt (grid0.coords t) a) = accN m c t.val := by
  unfold accAt
  by_cases hc : k0_cond1 (grid0.coords t) = 1#1
  · rw [if_pos hc]
    have h0 := (cond1_iff t).mp hc
    have e : t = tOf 0 := by rw [← h0, tOf_val]
    subst e; rfl
  · rw [if_neg hc]
    have h0 := mt (cond1_iff t).mpr hc
    rw [h h0]
    obtain ⟨n, hn⟩ := Nat.exists_eq_succ_of_ne_zero h0
    have e : t = tOf (n + 1) := by rw [← Nat.succ_eq_add_one, ← hn, tOf_val]
    rw [hn]
    show acc9 (iblk m c 1 t) (iblk m c 2 t) (accN m c n) = acc9 (iblk m c 1 (tOf (n + 1))) (iblk m c 2 (tOf (n + 1))) (accN m c n)
    rw [← e]

/-- What a point leaves in the scale's buffer. -/
theorem leaves4 (c : Dev nD) (t : Fin cfg0.N) (d) :
    (owns (c : Thread nD τ) (ms0_4 t) fullShare (scaleAt (grid0.coords t) (hist m c) ((dats m 0 c).before 4 t d)) : sProp 𝕄) ⊢ (dats m 0 c).leavesExact 4 t := by
  by_cases h0 : t.val = 0
  · rw [show (dats m 0 c).leavesExact 4 t = owns (c : Thread nD τ) (ms0_4 t) fullShare ((dats m 0 c).after 4 t) from by
      unfold Dat.leavesExact; rw [live4 t h0], after0_4]
    unfold scaleAt; rw [if_pos ((cond1_iff t).mpr h0)]
  · unfold scaleAt; rw [if_neg (mt (cond1_iff t).mp h0)]
    by_cases h1 : t.val = 31
    · have hf : (cfg0.win 4).flush t = true := (flush0_4 t).mpr (by omega)
      rw [show (dats m 0 c).leavesExact 4 t = owns (c : Thread nD τ) (ms0_4 t) fullShare ((dats m 0 c).after 4 t) from by
        unfold Dat.leavesExact; rw [idle4_pos t h0, hf], after0_4, before0_4 m c (t.val - 1) t (by omega)]
    · rw [Dat.leavesExact_idle _ 4 t (idle4_pos t h0) (noflush4 t h1)]
      iintro H; iexists d; iexact H

/-- What a point leaves in the buffer of the overall maximum. -/
theorem leaves5 (c : Dev nD) (t : Fin cfg0.N) (d) :
    (owns (c : Thread nD τ) (ms0_5 t) fullShare (amaxAt (grid0.coords t) (accN m c t.val) ((dats m 0 c).before 5 t d)) : sProp 𝕄) ⊢ (dats m 0 c).leavesExact 5 t := by
  unfold amaxAt
  by_cases h0 : t.val = 31
  · rw [show (dats m 0 c).leavesExact 5 t = owns (c : Thread nD τ) (ms0_5 t) fullShare ((dats m 0 c).after 5 t) from by
      unfold Dat.leavesExact; rw [live5 t h0], after0_5]
    rw [if_pos ((cond2_iff t).mpr h0)]
  · rw [if_neg (mt (cond2_iff t).mp h0)]
    rw [Dat.leavesExact_idle _ 5 t (idle5_pos t h0) (noflush5 t h0)]
    iintro H; iexists d; iexact H

set_option maxHeartbeats 9600000 in
/-- The body at any point, from `body_value`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [Phi_castSucc, Phi_succ]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [live3 t], after0_3]
  iintro ⟨⟨⟨HS0, ⟨%v, %hv, HS1⟩, ⟨%a, %ha, HS2⟩⟩, Hg⟩, Ho, ⟨%d0, H0⟩, ⟨%d1, H1⟩, ⟨%d2, H2⟩, ⟨%d3, H3⟩, ⟨%d4, H4⟩, ⟨%d5, H5⟩⟩
  iapply (body_value c (grid0.coords t) _ _ _ _ _ _ _ _ _ _ _ _ _ _ _ _ _ _ (iblk m c 0 t) (iblk m c 1 t) (iblk m c 2 t)
    ((dats m 0 c).before 4 t d4) ((dats m 0 c).before 5 t d5) v a Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  isplitl [HS2]; · iexact HS2
  rw [iblk0_eq m c t, invAt_eq m c t v hv, acc9_eq m c t a ha]
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitr; swap; · iexact HS1
        ipureintro; exact fun _ => rfl
      iexists _; isplitr; swap; · iexact HS2
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iapply (leaves4 m c t d4); iexact H4
  iapply (leaves5 m c t d5); iexact H5

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch at anything is the invariant before the first point, -/
theorem hin (c : Dev nD) : (Pipeline.ΦA spec0 c : sProp 𝕄) ⊢ (dats m 0 c).Φ 0 := by
  rw [show (dats m 0 c).Φ 0 = PhiS m c 0 from by dsimp only [dats]; rfl, PhiA0_eq]
  unfold PhiS
  iintro ⟨⟨HS0, ⟨%v, HS1⟩, ⟨%a, HS2⟩⟩, Hg⟩
  isplitl [HS0 HS1 HS2]
  · isplitl [HS0]; · iexact HS0
    isplitl [HS1]
    · iexists _; isplitr; swap; · iexact HS1
      ipureintro; exact fun h => absurd rfl h
    iexists _; isplitr; swap; · iexact HS2
    ipureintro; exact fun h => absurd rfl h
  iexact Hg

/-- and the invariant after the last point leaves the scratch at something. -/
theorem hout (c : Dev nD) : (dats m 0 c).Φ (Fin.last cfg0.N) ⊢ (Pipeline.ΦA spec0 c : sProp 𝕄) := by
  rw [show (dats m 0 c).Φ (Fin.last cfg0.N) = PhiS m c (Fin.last cfg0.N).val from by dsimp only [dats], PhiA0_eq]
  unfold PhiS
  iintro ⟨⟨HS0, ⟨%v, -, HS1⟩, ⟨%a, -, HS2⟩⟩, Hg⟩
  isplitl [HS0 HS1 HS2]
  · isplitl [HS0]; · iexact HS0
    isplitl [HS1]; · iexists _; iexact HS1
    iexists _; iexact HS2
  iexact Hg

set_option backward.isDefEq.respectTransparency.types false in
/-- The launch: the run to the library's post with every result named. -/
theorem run_main : θ_run defs (onTc (τ := τ) (main (F := F))) (s₀ m ρ) (Pipeline.FramePost cfgs (dats m) 0 (V m)) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

end Cert.KernelIdeal.Val

end
-- ==== Proof.Scalars.lean ====
/- The scalars of the requantiser over the extended reals: what a word with only an exponent field denotes, the kernel's search
   for the exponent of the history's maximum, and that it finds the reference's exponent. Maxima over index sets are read by the
   bounds they satisfy. -/
module

public import Idealize.ShloMosaic.PureOps
public import Idealize.ShloMosaic.PureOps.Ideal
public import Idealize.ShloMosaic.PureOps.Ideal.Laws
public import Idealize.ShloMosaic.PureOps.Reduce
public import Idealize.ShloMosaic.Lib.KernelVsHost
public import Mathlib.Analysis.SpecialFunctions.Log.Basic
public import Mathlib.Analysis.SpecialFunctions.Pow.Real
public import Mathlib.Tactic.FieldSimp
public import Mathlib.Tactic.Linarith

@[expose] public section

noncomputable section

namespace Cert.Requant

open Idealize.ShloMosaic

/-! ## Maxima read by their bounds -/

/-- A maximum over every index of a shape is at most `z` exactly when the starting value and every element are. -/
theorem multiReduction_max_le {s t : Shape} {axes : List (Fin s.rank)} (φ : FTy) (src : FVec Ideal s φ) (acc : BitVec φ.bits)
    (h : s.Reduces axes t) (ht : ∀ b, t.size b = 1) (hφ : FKind.Formats φ) (hacc : acc = FKind.maximumf.neutral φ hφ) (j : t.Idx) (z : EReal) :
    multiReduction .maximumf axes t src acc h hφ hacc j ≤ z ↔ Ideal.ofBits φ acc ≤ z ∧ ∀ i, src i ≤ z := by
  haveI : Std.Commutative (FloatOps.maximumf (F := Ideal) (φ := φ)) := ⟨fun a b => max_comm (a : EReal) b⟩
  haveI : Std.Associative (FloatOps.maximumf (F := Ideal) (φ := φ)) := ⟨fun a b c => max_assoc (a : EReal) b c⟩
  rw [multiReduction_maximumf_eq_fold, Finset.filter_true_of_mem fun i _ => funext fun b => Fin.ext (by
    have := (h.drop i b).isLt; have := (j b).isLt; have := ht b; omega)]
  refine (Finset.fold_max_le (β := EReal) z).trans ?_
  simp

/-- The host's maximum over every index is at most `z` exactly when the starting value and every element are. -/
theorem hostReduce_max_le {s t u : Shape} {axes : List (Fin s.rank)} (φ : FTy) (x : FVec Ideal s φ) (acc : BitVec φ.bits)
    (h : s.ReducesTo axes t) (hu : 0 < u.numel) (ht : ∀ b, t.size b = 1) (j : t.Idx) (z : EReal) :
    Host.reduce FloatOps.maximumf x (constant u φ acc) h hu j ≤ z ↔ Ideal.ofBits φ acc ≤ z ∧ ∀ i, x i ≤ z := by
  rw [Host.reduce_eq_foldl, List.filter_eq_self.2 fun i _ => decide_eq_true (funext fun b => Fin.ext (by
    have := (h.drop i b).isLt; have := (j b).isLt; have := ht b; omega))]
  have key : ∀ (l : List s.Idx) (a : EReal), l.foldl (fun r i => max r (x i)) a ≤ z ↔ a ≤ z ∧ ∀ i ∈ l, x i ≤ z := by
    intro l
    induction l with
    | nil => intro a; simp
    | cons i l ih => intro a; rw [List.foldl_cons, ih]; simp [and_assoc]
  refine (key _ _).trans (and_congr Iff.rfl ⟨fun hl i => hl i (List.mem_map.2 ⟨s.rowMajor i, List.mem_finRange _, by simp⟩), fun hl i _ => hl i⟩)

/-- The word of minus infinity denotes the least extended real. -/
theorem negInf_f32 : Ideal.ofBits .f32 0xFF800000#32 = ⊥ := by simp [Ideal.ofBits, Ideal.ieee]

/-! ## Words with only an exponent field -/

/-- The fields of the word `n` shifted into the exponent of a 32-bit float. -/
theorem fields_f32 : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- The fields of the byte `s` shifted into the exponent of a 16-bit float. -/
theorem fields_bf16 : ∀ n : Fin 256, (((BitVec.ofNat 8 n.val).setWidth 16 <<< 7).extractLsb' 15 1 == 1#1) = false
    ∧ (((BitVec.ofNat 8 n.val).setWidth 16 <<< 7).extractLsb' 7 8).toNat = n.val
    ∧ (((BitVec.ofNat 8 n.val).setWidth 16 <<< 7).extractLsb' 0 7).toNat = 0 := by
  decide +kernel

/-- A positive pattern whose fraction is zero and whose exponent field is neither zero nor all ones is a power of two. -/
theorem ieee_pow (e m : ℕ) {w : ℕ} (b : BitVec w) (n : ℕ) (hs : (b.extractLsb' (e + m) 1 == 1#1) = false)
    (hx : (b.extractLsb' m e).toNat = n) (hf : (b.extractLsb' 0 m).toNat = 0) (n1 : ¬ n = 2 ^ e - 1) (n2 : ¬ n = 0) :
    Ideal.ieee e m b = (((2 : ℝ) ^ ((n : ℤ) - (2 ^ (e - 1) - 1)) : ℝ) : EReal) := by
  simp only [Ideal.ieee, hs, hx, hf, if_neg n1, if_neg n2]
  generalize (n : ℤ) - (2 ^ (e - 1) - 1) = k
  rw [zpow_sub₀ (by norm_num : (2 : ℝ) ≠ 0), zpow_natCast]
  congr 1
  push_cast
  have : (2 : ℝ) ^ m ≠ 0 := by positivity
  field_simp
  simp

/-- The word with exponent field `n`, strictly between 0 and 255, is two to the power `n − 127`. -/
theorem word_f32 (n : ℕ) (h1 : 1 ≤ n) (h2 : n ≤ 254) :
    Ideal.ofBits .f32 (BitVec.ofNat 32 n <<< 23) = (((2 : ℝ) ^ ((n : ℤ) - 127) : ℝ) : EReal) := by
  obtain ⟨a, b, c⟩ := fields_f32 ⟨n, by omega⟩
  have := ieee_pow 8 23 (BitVec.ofNat 32 n <<< 23) n a b c (by norm_num; omega) (by omega)
  norm_num at this
  exact this

/-- The word with exponent field 255 is plus infinity. -/
theorem word_f32_top : Ideal.ofBits .f32 (BitVec.ofNat 32 255 <<< 23) = ⊤ := by
  simp [Ideal.ofBits, Ideal.ieee]

/-- The 16-bit float with exponent field `s`, strictly between 0 and 255, is two to the power `s − 127`. -/
theorem word_bf16 (s : BitVec 8) (h1 : 1 ≤ s.toNat) (h2 : s.toNat ≤ 254) :
    Ideal.ofBits .bf16 (s.setWidth 16 <<< 7) = (((2 : ℝ) ^ ((s.toNat : ℤ) - 127) : ℝ) : EReal) := by
  obtain ⟨a, b, c⟩ := fields_bf16 ⟨s.toNat, s.isLt⟩
  simp only [BitVec.ofNat_toNat, BitVec.setWidth_eq] at a b c
  have := ieee_pow 8 7 (s.setWidth 16 <<< 7) s.toNat a b c (by norm_num; omega) (by omega)
  norm_num at this
  exact this

/-- Two to an integer power, as the reference's exponential computes it. -/
theorem exp2_int (n : ℤ) : Ideal.exp2 (((n : ℝ) : ℝ) : EReal) = (((2 : ℝ) ^ n : ℝ) : EReal) := by
  show ((Real.rpow 2 (n : ℝ) : ℝ) : EReal) = _
  exact congrArg _ (Real.rpow_intCast 2 n)

theorem f32_127 : Ideal.ofBits .f32 0x42FE0000#32 = ((127 : ℝ) : EReal) := by
  simp [Ideal.ofBits, Ideal.ieee, -EReal.coe_mul]; norm_num
theorem f32_one : Ideal.ofBits .f32 0x3F800000#32 = ((1 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_lo : Ideal.ofBits .f32 0x00800000#32 = (((2 : ℝ) ^ (-126 : ℤ) : ℝ) : EReal) := by
  have := word_f32 1 (by norm_num) (by norm_num); simpa using this
theorem f32_hi : Ideal.ofBits .f32 0x7E800000#32 = (((2 : ℝ) ^ (126 : ℤ) : ℝ) : EReal) := by
  have := word_f32 253 (by norm_num) (by norm_num); simpa using this

/-- The multiplier a row scale's byte stands for: the kernel's 16-bit word and the reference's power of two agree on the bytes
    strictly between 0 and 255. -/
theorem mult_eq (s : BitVec 8) (h1 : 1 ≤ s.toNat) (h2 : s.toNat ≤ 254) :
    Ideal.ofBits .bf16 (s.setWidth 16 <<< 7)
      = Ideal.exp2 ((((s.setWidth 32).toInt : ℝ) : EReal) - Ideal.ofBits .f32 0x42FE0000#32) := by
  have hi : (s.setWidth 32).toInt = (s.toNat : ℤ) := by
    rw [BitVec.toInt_eq_toNat_of_lt] <;> simp <;> omega
  rw [word_bf16 s h1 h2, f32_127, hi, ← EReal.coe_sub, ← exp2_int]
  push_cast
  rfl

/-! ## The search for an exponent field -/

/-- One step of the search: take the bit `b` when the word with it is accepted. -/
def step (g : BitVec 32 → BitVec 1) (b f : BitVec 32) : BitVec 32 := if g (f + b) = 1#1 then f + b else f

/-- The eight steps, from the highest bit of the field down. -/
def search (g : BitVec 32 → BitVec 1) : BitVec 32 :=
  step g 1 (step g 2 (step g 4 (step g 8 (step g 16 (step g 32 (step g 64 (step g 128 0)))))))

/-- The field lies within `2 b` above the word found so far. -/
def Within (f0 b : ℕ) (f : BitVec 32) : Prop := f.toNat ≤ f0 ∧ f0 < f.toNat + 2 * b ∧ f.toNat + 2 * b ≤ 256

/-- A step halves the distance, when words are accepted up to the field. -/
theorem step_within {g : BitVec 32 → BitVec 1} {f0 : ℕ} (hg : ∀ c : BitVec 32, 1 ≤ c.toNat → c.toNat ≤ 255 → (g c = 1#1 ↔ c.toNat ≤ f0))
    (b b' : ℕ) (hb : b = 2 * b' ∨ (b = 1 ∧ b' = 0)) (hb0 : 1 ≤ b) {f : BitVec 32} (h : Within f0 b f) :
    (step g (BitVec.ofNat 32 b) f).toNat ≤ f0 ∧ f0 < (step g (BitVec.ofNat 32 b) f).toNat + b
      ∧ (step g (BitVec.ofNat 32 b) f).toNat + b ≤ 256 := by
  obtain ⟨h1, h2, h3⟩ := h
  have hc : (f + BitVec.ofNat 32 b).toNat = f.toNat + b := by
    rw [BitVec.toNat_add, BitVec.toNat_ofNat]; omega
  have hk := hg (f + BitVec.ofNat 32 b) (by omega) (by omega)
  unfold step
  split
  · rename_i hh; have := hk.1 hh; omega
  · rename_i hh; have := mt hk.2 hh; omega

/-- The search finds the field. -/
theorem search_eq {g : BitVec 32 → BitVec 1} {f0 : ℕ} (h0 : f0 < 256)
    (hg : ∀ c : BitVec 32, 1 ≤ c.toNat → c.toNat ≤ 255 → (g c = 1#1 ↔ c.toNat ≤ f0)) : search g = BitVec.ofNat 32 f0 := by
  have w0 : Within f0 128 (0 : BitVec 32) := ⟨by simp, by simpa using h0, by simp⟩
  have w1 : Within f0 64 _ := step_within hg 128 64 (.inl rfl) (by norm_num) w0
  have w2 : Within f0 32 _ := step_within hg 64 32 (.inl rfl) (by norm_num) w1
  have w3 : Within f0 16 _ := step_within hg 32 16 (.inl rfl) (by norm_num) w2
  have w4 : Within f0 8 _ := step_within hg 16 8 (.inl rfl) (by norm_num) w3
  have w5 : Within f0 4 _ := step_within hg 8 4 (.inl rfl) (by norm_num) w4
  have w6 : Within f0 2 _ := step_within hg 4 2 (.inl rfl) (by norm_num) w5
  have w7 : Within f0 1 _ := step_within hg 2 1 (.inl rfl) (by norm_num) w6
  have w8 := step_within hg 1 0 (.inr ⟨rfl, rfl⟩) (by norm_num) w7
  have hs : (search g).toNat ≤ f0 ∧ f0 < (search g).toNat + 1 ∧ (search g).toNat + 1 ≤ 256 := w8
  apply BitVec.eq_of_toNat_eq
  rw [BitVec.toNat_ofNat]
  omega

/-! ## The history's exponent -/

/-- The history's maximum over the largest value of the code format, in magnitude. -/
def mag (h : EReal) : EReal := max (h * Ideal.ofBits .f32 0x3B124925#32) (-(h * Ideal.ofBits .f32 0x3B124925#32))

/-- The magnitude is zero, or a normal number whose power of two has a normal reciprocal. -/
def InRange (h : EReal) : Prop :=
  mag h = 0 ∨ (Ideal.ofBits .f32 0x00800000#32 ≤ mag h ∧ mag h < Ideal.ofBits .f32 0x7E800000#32)

/-- The exponent field the kernel's search finds. -/
def fieldOf (h : EReal) : BitVec 32 := search fun c => Ideal.cmp .oge (mag h) (Ideal.ofBits .f32 (c <<< 23))

/-- The kernel's exponent: zero where the field is 0 or 255 or the history is zero. -/
def exponentOf (h : EReal) : BitVec 32 :=
  if (IntOp.cmpi .eq (fieldOf h) 0#32 ||| IntOp.cmpi .eq (fieldOf h) 255#32) ||| Ideal.cmp .oeq h (Ideal.ofBits .f32 0x00000000#32) = 1#1
  then 0#32 else fieldOf h - 126#32

/-- The reference's exponent. -/
def refExponent (h : EReal) : EReal :=
  if Ideal.cmp .oeq h (Ideal.ofBits .f32 0x00000000#32) = 1#1 then Ideal.ofBits .f32 0x00000000#32
  else Ideal.liftRound Int.floor (Ideal.div (Ideal.log (mag h)) (Ideal.log (Ideal.ofBits .f32 0x40000000#32))) + Ideal.ofBits .f32 0x3F800000#32

/-- The factor of the magnitude is not zero. -/
theorem factor_ne : Ideal.ofBits .f32 0x3B124925#32 ≠ 0 := by
  simp [Ideal.ofBits, Ideal.ieee, -EReal.coe_mul]

/-- A history whose magnitude is zero is zero. -/
theorem eq_zero_of_mag {h : EReal} (hm : mag h = 0) : h = 0 := by
  have h1 : h * Ideal.ofBits .f32 0x3B124925#32 ≤ 0 := hm ▸ le_max_left _ _
  have h2 : -(h * Ideal.ofBits .f32 0x3B124925#32) ≤ 0 := hm ▸ le_max_right _ _
  have h3 : 0 ≤ h * Ideal.ofBits .f32 0x3B124925#32 := by
    have := EReal.neg_le_neg_iff.2 h2; simpa using this
  exact (mul_eq_zero.1 (le_antisymm h1 h3)).resolve_right factor_ne

/-- The magnitude of zero is zero. -/
theorem mag_zero : mag 0 = 0 := by simp [mag]

theorem cmp_oge_iff (x y : EReal) : Ideal.cmp .oge x y = 1#1 ↔ y ≤ x := by
  simp only [Ideal.cmp]
  by_cases h : y ≤ x <;> simp [h]

theorem cmp_olt_iff (x y : EReal) : Ideal.cmp .olt x y = 1#1 ↔ x < y := by
  simp only [Ideal.cmp]
  by_cases h : x < y <;> simp [h]

theorem cmp_oeq_iff (x y : EReal) : Ideal.cmp .oeq x y = 1#1 ↔ x = y := by
  simp only [Ideal.cmp]
  by_cases h : x = y <;> simp [h]

/-- The whole part of the logarithm to base two of a real. -/
def log2 (a : ℝ) : ℤ := ⌊Real.log a / Real.log 2⌋

/-- A power of two is at most a positive real exactly when its exponent is at most the whole part of the real's logarithm. -/
theorem zpow_le_iff (a : ℝ) (ha : 0 < a) (n : ℤ) : (2 : ℝ) ^ n ≤ a ↔ n ≤ log2 a := by
  have h2 : 0 < Real.log 2 := Real.log_pos (by norm_num)
  rw [log2, Int.le_floor, le_div_iff₀ h2, ← Real.log_zpow, Real.log_le_log_iff (by positivity) ha]

/-- Below infinity the word of field `c` is at most a magnitude exactly when `c` is at most the magnitude's field. -/
theorem accept_iff (a : ℝ) (ha : 0 < a) (h1 : -126 ≤ log2 a) (h2 : log2 a ≤ 125) (c : BitVec 32)
    (hc1 : 1 ≤ c.toNat) (hc2 : c.toNat ≤ 255) :
    Ideal.cmp .oge (a : EReal) (Ideal.ofBits .f32 (c <<< 23)) = 1#1 ↔ c.toNat ≤ (log2 a + 127).toNat := by
  obtain ⟨n, hn⟩ : ∃ n, n = c.toNat := ⟨_, rfl⟩
  have hcw : c = BitVec.ofNat 32 n := by rw [hn]; simp
  rw [cmp_oge_iff, ← hn]
  rw [← hn] at hc1 hc2
  rw [hcw]
  rcases Nat.lt_or_ge n 255 with hlt | hge
  · rw [word_f32 n hc1 (by omega), EReal.coe_le_coe_iff, zpow_le_iff a ha]
    omega
  · have e : n = 255 := by omega
    rw [e, word_f32_top]
    simp
    omega

/-- Where the magnitude is below every normal number the search finds the zero field. -/
theorem accept_zero (c : BitVec 32) (hc1 : 1 ≤ c.toNat) (hc2 : c.toNat ≤ 255) :
    Ideal.cmp .oge (0 : EReal) (Ideal.ofBits .f32 (c <<< 23)) = 1#1 ↔ c.toNat ≤ 0 := by
  obtain ⟨n, hn⟩ : ∃ n, n = c.toNat := ⟨_, rfl⟩
  have hcw : c = BitVec.ofNat 32 n := by rw [hn]; simp
  rw [cmp_oge_iff, ← hn]
  rw [← hn] at hc1 hc2
  rw [hcw]
  rcases Nat.lt_or_ge n 255 with hlt | hge
  · rw [word_f32 n hc1 (by omega)]
    have : (0 : EReal) < (((2 : ℝ) ^ ((n : ℤ) - 127) : ℝ) : EReal) := EReal.coe_pos.2 (by positivity)
    exact ⟨fun h => absurd h (not_le.2 this), fun h => by omega⟩
  · have e : n = 255 := by omega
    rw [e, word_f32_top]
    simp

/-- In range the kernel's exponent word, the bias added and shifted into place, is the reference's power of two, and so is the
    reciprocal. -/
theorem exponent_eq (h : EReal) (hr : InRange h) :
    Ideal.ofBits .f32 ((exponentOf h + 127#32) <<< 23) = Ideal.exp2 (refExponent h)
    ∧ Ideal.ofBits .f32 ((0#32 - exponentOf h + 127#32) <<< 23) = Ideal.exp2 (Ideal.ofBits .f32 0x00000000#32 - refExponent h) := by
  have z0 : Ideal.ofBits .f32 0x00000000#32 = 0 := Ideal.ofBits_zero_f32
  have w := word_f32 127 (by norm_num) (by norm_num)
  rcases hr with hm | ⟨hlo, hhi⟩
  · have hz : h = 0 := eq_zero_of_mag hm
    have e1 : exponentOf h = 0#32 := if_pos (by rw [z0, (cmp_oeq_iff h 0).2 hz]; exact BitVec.or_allOnes (w := 1))
    have e2 : refExponent h = 0 := by unfold refExponent; rw [z0, if_pos ((cmp_oeq_iff h 0).2 hz)]
    have x0 : Ideal.exp2 0 = (((2 : ℝ) ^ (((127 : ℕ) : ℤ) - 127) : ℝ) : EReal) := by
      have := exp2_int 0; simpa using this
    rw [e1, e2, z0]
    exact ⟨w.trans x0.symm, w.trans (by rw [sub_zero]; exact x0.symm)⟩
  · rw [f32_lo] at hlo
    rw [f32_hi] at hhi
    obtain ⟨a, ha⟩ : ∃ a : ℝ, mag h = (a : EReal) :=
      ⟨(mag h).toReal, (EReal.coe_toReal (ne_top_of_lt hhi) (ne_of_gt (lt_of_lt_of_le (EReal.bot_lt_coe _) hlo))).symm⟩
    rw [ha, EReal.coe_le_coe_iff] at hlo
    rw [ha, EReal.coe_lt_coe_iff] at hhi
    have hpos : 0 < a := lt_of_lt_of_le (by positivity) hlo
    have hL1 : -126 ≤ log2 a := (zpow_le_iff a hpos _).1 hlo
    have hL2 : log2 a ≤ 125 := by
      have := mt (zpow_le_iff a hpos 126).2 (not_le.2 hhi); omega
    have hne : h ≠ 0 := fun e => by
      rw [e, mag_zero] at ha
      exact absurd (EReal.coe_eq_zero.1 ha.symm) (ne_of_gt hpos)
    obtain ⟨f, hf⟩ : ∃ f : ℕ, f = (log2 a + 127).toNat := ⟨_, rfl⟩
    have hfL : (f : ℤ) = log2 a + 127 := by omega
    have hfield : fieldOf h = BitVec.ofNat 32 f := search_eq (by omega) fun c c1 c2 => by
      rw [ha, hf]; exact accept_iff a hpos hL1 hL2 c c1 c2
    have hx : exponentOf h = BitVec.ofNat 32 f - 126#32 := by
      unfold exponentOf
      have n1 : IntOp.cmpi .eq (fieldOf h) 0#32 = 0#1 := by
        rw [hfield]
        have : (BitVec.ofNat 32 f == 0#32) = false := by
          rw [beq_eq_false_iff_ne]; intro e; have := congrArg BitVec.toNat e; simp at this; omega
        simp [IntOp.cmpi, this]
      have n2 : IntOp.cmpi .eq (fieldOf h) 255#32 = 0#1 := by
        rw [hfield]
        have : (BitVec.ofNat 32 f == 255#32) = false := by
          rw [beq_eq_false_iff_ne]; intro e; have := congrArg BitVec.toNat e; simp at this; omega
        simp [IntOp.cmpi, this]
      have n3 : Ideal.cmp .oeq h (Ideal.ofBits .f32 0x00000000#32) = 0#1 := by
        rw [z0]; simp [Ideal.cmp, hne]
      rw [n1, n2, n3, if_neg (by decide), hfield]
    have hre : refExponent h = (((log2 a + 1 : ℤ) : ℝ) : EReal) := by
      unfold refExponent
      have n3 : ¬ Ideal.cmp .oeq h (Ideal.ofBits .f32 0x00000000#32) = 1#1 := by
        rw [z0, cmp_oeq_iff]; exact hne
      have h2 : 0 < Real.log 2 := Real.log_pos (by norm_num)
      have la : Ideal.log (a : EReal) = ((Real.log a : ℝ) : EReal) := if_neg (not_le.2 hpos)
      have l2 : Ideal.log ((2 : ℝ) : EReal) = ((Real.log 2 : ℝ) : EReal) := if_neg (by norm_num)
      have ld : Ideal.div ((Real.log a : ℝ) : EReal) ((Real.log 2 : ℝ) : EReal) = ((Real.log a / Real.log 2 : ℝ) : EReal) := by
        unfold Ideal.div
        rw [if_neg (fun e => (ne_of_gt h2) (EReal.coe_eq_zero.1 e)), ← EReal.coe_inv, ← EReal.coe_mul, div_eq_mul_inv]
      rw [if_neg n3, ha, f32_two, f32_one, la, l2, ld]
      show (((⌊Real.log a / Real.log 2⌋ : ℤ) : ℝ) : EReal) + ((1 : ℝ) : EReal) = _
      rw [← EReal.coe_add]
      push_cast
      rfl
    have k1 : exponentOf h + 127#32 = BitVec.ofNat 32 (f + 1) := by
      rw [hx]; apply BitVec.eq_of_toNat_eq
      simp only [BitVec.toNat_add, BitVec.toNat_sub, BitVec.toNat_ofNat]; omega
    have k2 : 0#32 - exponentOf h + 127#32 = BitVec.ofNat 32 (253 - f) := by
      rw [hx]; apply BitVec.eq_of_toNat_eq
      simp only [BitVec.toNat_add, BitVec.toNat_sub, BitVec.toNat_ofNat]; omega
    refine ⟨?_, ?_⟩
    · rw [k1, word_f32 _ (by omega) (by omega), hre, exp2_int]
      congr 2; push_cast; omega
    · rw [k2, word_f32 _ (by omega) (by omega), hre, z0, zero_sub, ← EReal.coe_neg]
      have := exp2_int (-(log2 a + 1))
      push_cast at this ⊢
      rw [this]
      congr 2; omega

end Cert.Requant

end
-- ==== Proof.Elements.lean ====
/- The kernel's tiles over the extended reals, element by element: one dequantised value, the results a grid point leaves, and
   the running magnitudes read by their bounds. -/
module

public import proofs.«01_k».proof.Proof.Loop
public import proofs.«01_k».proof.Proof.Scalars
public import Idealize.ShloMosaic.Lib.Pipeline.Value
public import Idealize.ShloMosaic.Lib.Pipeline.ValueKit.Tiles
public import Idealize.ShloMosaic.Lib.BitcastPair

@[expose] public section

set_option maxRecDepth 16384

noncomputable section

namespace Cert.KernelIdeal.Run

open Idealize.ShloMosaic Idealize.ShloMosaic.TcCoe Idealize.ShloMosaic.Tactic
open Cert.KernelIdeal.Gen

/-- An index of a rank-two shape from its coordinates. -/
def ix2 {d : Fin 2 → ℕ} (a b : ℕ) (ha : a < d 0) (hb : b < d 1) : (⟨2, d⟩ : Shape).Idx :=
  fun i => match i with | ⟨0, _⟩ => ⟨a, ha⟩ | ⟨1, _⟩ => ⟨b, hb⟩
/-- An index of a rank-three shape from its coordinates. -/
def ix3 {d : Fin 3 → ℕ} (a b c : ℕ) (ha : a < d 0) (hb : b < d 1) (hc : c < d 2) : (⟨3, d⟩ : Shape).Idx :=
  fun i => match i with | ⟨0, _⟩ => ⟨a, ha⟩ | ⟨1, _⟩ => ⟨b, hb⟩ | ⟨2, _⟩ => ⟨c, hc⟩

theorem off1_eq : ∀ k : Fin k0_t1_loop.trips, k0_off1 k = ![0, 8 * k.val, 0] := by decide +kernel
theorem off2_eq : ∀ k : Fin k0_t1_loop.trips, k0_off2 k = ![k.val, 0, 0] := by decide +kernel
theorem trip_lt (k : Fin k0_t1_loop.trips) : k.val < 18 := lt_of_lt_of_eq k.isLt trips_eq

theorem row_lt (k : Fin k0_t1_loop.trips) (r : Fin 8) : 8 * k.val + r.val < 144 := by
  have := trip_lt k
  have := r.isLt
  omega
theorem lane_lt (s : Fin 9) (l : Fin 128) : 128 * s.val + l.val < 1152 := by
  have := s.isLt
  have := l.isLt
  omega
theorem group_lt (d : Fin 4608) : d.val / 32 < 144 := by
  have := d.isLt
  omega

/-- A code times the multiplier its scale byte stands for. -/
def elt (x : EReal) (s : BitVec 8) : EReal := x * Ideal.ofBits .bf16 (s.setWidth 16 <<< 7)

/-- The dequantised value at column `d` and row `s` of a grid point, from its scale bytes and its codes. -/
def val (x1 : Vec Ideal S1x144x1152 .i8) (x2 : Vec Ideal S1x1152x4608 .fp8e4m3) (d : Fin 4608) (s : Fin 1152) : EReal :=
  elt (x2 (ix3 (d := ![1, 1152, 4608]) 0 s.val d.val Nat.one_pos s.isLt d.isLt))
    (x1 (ix3 (d := ![1, 144, 1152]) 0 (d.val / 32) s.val Nat.one_pos (group_lt d) s.isLt))

/-- A byte written into both halves of a word reads back from either half as the byte shifted. -/
theorem half_word : ∀ (b : BitVec 8) (p : Fin 2),
    ((b.setWidth 32 <<< 7) ||| (b.setWidth 32 <<< 23)).extractLsb' (16 * p.val) 16 = b.setWidth 16 <<< 7 := by
  decide +kernel

/-- The words of a trip at row `r`, column `c`: the byte in both halves. -/
theorem words_apply (x1 : Vec Ideal S1x144x1152 .i8) (k : Fin k0_t1_loop.trips) (r : Fin 8) (c : Fin 1152) :
    words x1 k (ix3 (d := ![1, 8, 1152]) 0 r.val c.val Nat.one_pos r.isLt c.isLt)
      = ((x1 (ix3 (d := ![1, 144, 1152]) 0 (8 * k.val + r.val) c.val Nat.one_pos (row_lt k r) c.isLt) : BitVec 8).setWidth 32 <<< 7)
        ||| ((x1 (ix3 (d := ![1, 144, 1152]) 0 (8 * k.val + r.val) c.val Nat.one_pos (row_lt k r) c.isLt) : BitVec 8).setWidth 32 <<< 23) := by
  unfold words k0_pay14
  dsimp only
  have hr := r.isLt; have hc := c.isLt
  rw [shapeCast_apply _ _ _ (ix2 (d := ![8, 1152]) r.val c.val hr hc) (by
    rw [Shape.rowMajor_val_three, Shape.rowMajor_val_two]
    show r.val * 1152 + c.val = (0 * 8 + r.val) * 1152 + c.val; omega)]
  have e : shapeCast S8x1152 (View.ld (Val := Elt Ideal) (e' := .i8) x1 (Rect.unit (s := S1x144x1152) (k0_off1 k) S1x8x1152.size (k0_off1_inb k)))
      shapeCasts_S1x8x1152_S8x1152 (ix2 (d := ![8, 1152]) r.val c.val hr hc)
      = x1 (ix3 (d := ![1, 144, 1152]) 0 (8 * k.val + r.val) c.val Nat.one_pos (row_lt k r) hc) := by
    rw [shapeCast_apply _ _ _ (ix3 (d := ![1, 8, 1152]) 0 r.val c.val Nat.one_pos hr hc) (by
      rw [Shape.rowMajor_val_three, Shape.rowMajor_val_two]
      show (0 * 8 + r.val) * 1152 + c.val = r.val * 1152 + c.val; omega)]
    refine View.ld_unit_apply_of _ _ _ _ _ _ fun a => ?_
    refine Eq.trans ?_ (congrArg (· + _) (congrFun (off1_eq k) a).symm)
    match a with
    | ⟨0, _⟩ => rfl
    | ⟨1, _⟩ => rfl
    | ⟨2, _⟩ => show c.val = 0 + c.val; omega
  show IntOp.ori (IntOp.shli .vector (BitVec.setWidth 32 (shapeCast S8x1152 _ _ _)) 7#32) (IntOp.shli .vector (BitVec.setWidth 32 (shapeCast S8x1152 _ _ _)) 23#32) = _
  rw [e]
  rfl

/-- Row `r` of a trip's words at row group `s`, column `l` of the group. -/
theorem rs_apply (x1 : Vec Ideal S1x144x1152 .i8) (k : Fin k0_t1_loop.trips) (s : Fin 9) (r : Fin 8) (l : Fin 128) :
    rs x1 k s r (ix3 (d := ![1, 1, 128]) 0 0 l.val Nat.one_pos Nat.one_pos l.isLt)
      = words x1 k (ix3 (d := ![1, 8, 1152]) 0 r.val (128 * s.val + l.val) Nat.one_pos r.isLt (lane_lt s l)) := by
  unfold rs
  have hs := s.isLt; have hl := l.isLt
  have e : (Rect.unit (s := S18x8x1152) (offR k s r) S1x1x128.size (inbR k s r)).toLoadRect.idx (ix3 (d := ![1, 1, 128]) 0 0 l.val Nat.one_pos Nat.one_pos l.isLt)
      = (Rect.unit (s := S18x8x1152) (k0_off2 k) S1x8x1152.size (k0_off2_inb k)).emb
          (ix3 (d := ![1, 8, 1152]) 0 r.val (128 * s.val + l.val) Nat.one_pos r.isLt (lane_lt s l)) := by
    funext a
    apply Fin.ext
    refine (Rect.idx_unit_val _ _ _ _ a).trans ?_
    refine Eq.trans ?_ (Rect.idx_unit_val _ _ _ _ a).symm
    refine (congrArg (· + _) (congrFun (offR_eq k s r) a)).trans ?_
    refine Eq.trans ?_ (congrArg (· + _) (congrFun (off2_eq k) a).symm)
    match a with
    | ⟨0, _⟩ => rfl
    | ⟨1, _⟩ => show r.val + 0 = 0 + r.val; omega
    | ⟨2, _⟩ => show 128 * s.val + l.val = 0 + (128 * s.val + l.val); omega
  rw [e]
  exact View.canon_cons_emb _ _ _ _

/-- A tile's values are the dequantised values at its columns and rows. -/
theorem VAL_apply (x1 : Vec Ideal S1x144x1152 .i8) (x2 : Vec Ideal S1x1152x4608 .fp8e4m3) (k : Fin k0_t1_loop.trips) (s : Fin 9) (q : Fin 2)
    (g : Fin 4) (h : Fin 2) (j : S16x128.Idx) (d : Fin 4608) (s' : Fin 1152)
    (hd : d.val = 256 * k.val + 128 * q.val + 32 * g.val + 16 * h.val + (j 0).val) (hs' : s'.val = 128 * s.val + (j 1).val) :
    VAL (xs x2 k s q) (rs x1 k s (rowOf q g)) g h j = val x1 x2 d s' := by
  have hk := trip_lt k; have hs := s.isLt; have hq := q.isLt; have hg := g.isLt; have hh := h.isLt
  have hj0 : (j 0).val < 16 := (j 0).isLt
  have hj1 : (j 1).val < 128 := (j 1).isLt
  have e1 : extractStridedSlice S16x128 ![32 * g.val + 16 * h.val, 0]
      (transpose S128x128 [1, 0] (shapeCast S128x128 (xs x2 k s q) shapeCasts_S1x128x128_S128x128) transposes_S128x128_p1_0_S128x128)
      (slicesG g h) j = x2 (ix3 (d := ![1, 1152, 4608]) 0 s'.val d.val Nat.one_pos s'.isLt d.isLt) := by
    rw [extractStridedSlice_apply _ _ _ j (ix2 (d := ![128, 128]) (32 * g.val + 16 * h.val + (j 0).val) (j 1).val
      (by show _ < 128; omega) hj1) (fun a => by
        match a with
        | ⟨0, _⟩ => rfl
        | ⟨1, _⟩ => show (j 1).val = 0 + (j 1).val; omega)]
    rw [transpose_apply _ _ _ _ (ix2 (d := ![128, 128]) (j 1).val (32 * g.val + 16 * h.val + (j 0).val) hj1
      (by show _ < 128; omega)) (fun b => by
        match b with
        | ⟨0, _⟩ => rfl
        | ⟨1, _⟩ => rfl)]
    rw [shapeCast_apply _ _ _ (ix3 (d := ![1, 128, 128]) 0 (j 1).val (32 * g.val + 16 * h.val + (j 0).val) Nat.one_pos hj1
      (by show _ < 128; omega)) (by
        rw [Shape.rowMajor_val_three, Shape.rowMajor_val_two]
        show (0 * 128 + (j 1).val) * 128 + (32 * g.val + 16 * h.val + (j 0).val) = (j 1).val * 128 + (32 * g.val + 16 * h.val + (j 0).val)
        omega)]
    unfold xs
    refine View.ld_unit_apply_of _ _ _ _ _ _ fun a => ?_
    refine Eq.trans ?_ (congrArg (· + _) (congrFun (offX_eq k s q) a).symm)
    match a with
    | ⟨0, _⟩ => rfl
    | ⟨1, _⟩ => exact hs'
    | ⟨2, _⟩ => show d.val = 256 * k.val + 128 * q.val + (32 * g.val + 16 * h.val + (j 0).val); omega
  have e2 : bitcast S16x128 16 (broadcastTo S8x128 (shapeCast S1x128
      (shapeCast S1x128 (rs x1 k s (rowOf q g)) shapeCasts_S1x1x128_S1x128 : IVec S1x128 32) shapeCasts_S1x128_S1x128) broadcasts_S1x128_S8x128) bitcasts_S8x128_w32_S16x128_w16 j
      = (x1 (ix3 (d := ![1, 144, 1152]) 0 (d.val / 32) s'.val Nat.one_pos (group_lt d) s'.isLt) : BitVec 8).setWidth 16 <<< 7 := by
    rw [bitcast_32_16]
    rw [broadcastTo_apply _ _ _ (ix2 (d := ![1, 128]) 0 (j 1).val Nat.one_pos hj1) (fun a => by
      match a with
      | ⟨0, _⟩ => rfl
      | ⟨1, _⟩ => rfl)]
    rw [shapeCast_apply _ _ _ (ix2 (d := ![1, 128]) 0 (j 1).val Nat.one_pos hj1) rfl]
    rw [shapeCast_apply _ _ _ (ix3 (d := ![1, 1, 128]) 0 0 (j 1).val Nat.one_pos Nat.one_pos hj1) (by
      rw [Shape.rowMajor_val_three, Shape.rowMajor_val_two]; rfl)]
    rw [rs_apply x1 k s (rowOf q g) ⟨(j 1).val, hj1⟩]
    rw [words_apply x1 k (rowOf q g) ⟨128 * s.val + (j 1).val, by omega⟩]
    have hrow := rowOf_val q g
    have ei : (ix3 (d := ![1, 144, 1152]) 0 (8 * k.val + (rowOf q g).val) (128 * s.val + (j 1).val) Nat.one_pos
        (row_lt k (rowOf q g)) (lane_lt s ⟨(j 1).val, hj1⟩))
        = ix3 (d := ![1, 144, 1152]) 0 (d.val / 32) s'.val Nat.one_pos (group_lt d) s'.isLt := by
      have a1 : 8 * k.val + (rowOf q g).val = d.val / 32 := by omega
      have a2 : 128 * s.val + (j 1).val = s'.val := by omega
      funext a
      apply Fin.ext
      match a with
      | ⟨0, _⟩ => rfl
      | ⟨1, _⟩ => exact a1
      | ⟨2, _⟩ => exact a2
    dsimp only
    rw [ei]
    exact half_word _ ⟨S16x128.row j % 2, Nat.mod_lt _ (by decide)⟩
  unfold VAL val elt
  show extractStridedSlice S16x128 ![32 * g.val + 16 * h.val, 0]
      (transpose S128x128 [1, 0] (shapeCast S128x128 (xs x2 k s q) shapeCasts_S1x128x128_S128x128) transposes_S128x128_p1_0_S128x128)
      (slicesG g h) j * Ideal.ofBits .bf16 (bitcast S16x128 16 _ _ j) = _
  rw [e1, e2]

end Cert.KernelIdeal.Run

end
-- ==== Proof.Codes.lean ====
/- What a grid point computes over the extended reals: the codes it leaves, the scale and its inverse, and the running largest
   magnitude read by its bounds. -/
module

public import proofs.«01_k».proof.Proof.Elements
public import proofs.«01_k».proof.Proof.ValueBody
public import Idealize.ShloMosaic.Lib.Bf16Pair
public import Idealize.ShloMosaic.Lib.Bf16PairInverse

@[expose] public section

set_option maxRecDepth 16384

noncomputable section

namespace Cert.KernelIdeal.Run

open Idealize.ShloMosaic Idealize.ShloMosaic.TcCoe Idealize.ShloMosaic.Tactic
open Cert.KernelIdeal.Gen Cert.Requant

/-- A value times the inverse scale, clipped to the range of the code format. -/
def clip (v i : EReal) : EReal := min (Ideal.ofBits .f32 0x43E00000#32) (max (Ideal.ofBits .f32 0xC3E00000#32) (v * i))
/-- The magnitude of a value. -/
def mabs (v : EReal) : EReal := max v (-v)

theorem mabs_nonneg (v : EReal) : 0 ≤ mabs v := by
  rcases le_total 0 v with h | h
  · exact h.trans (le_max_left _ _)
  · exact (EReal.neg_nonneg.2 h).trans (le_max_right _ _)

/-! ## The codes -/

/-- One tile's results at row `r`, column `l` of the tile. -/
theorem TILE_apply (v3 : FVec Ideal S16x128 .bf16) (iv : EReal) (hv : ∀ j, v3 j = iv) (x1 : Vec Ideal S1x144x1152 .i8)
    (x2 : Vec Ideal S1x1152x4608 .fp8e4m3) (k : Fin k0_t1_loop.trips) (s : Fin 9) (q : Fin 2) (g : Fin 4) (j : S1x32x128.Idx)
    (d : Fin 4608) (s' : Fin 1152) (hd : d.val = 256 * k.val + 128 * q.val + 32 * g.val + (j 1).val) (hs' : s'.val = 128 * s.val + (j 2).val) :
    TILE v3 (xs x2 k s q) (rs x1 k s (rowOf q g)) g j = clip (val x1 x2 d s') iv := by
  have h0 : (j 0).val < 1 := (j 0).isLt
  have h1 : (j 1).val < 32 := (j 1).isLt
  have h2 : (j 2).val < 128 := (j 2).isLt
  have hclip : ∀ (h : Fin 2) (i : S16x128.Idx), (j 1).val = 16 * h.val + (i 0).val → (i 1).val = (j 2).val →
      CLIP v3 (VAL (xs x2 k s q) (rs x1 k s (rowOf q g)) g h) i = clip (val x1 x2 d s') iv := by
    intro h i e1 e2
    have := VAL_apply x1 x2 k s q g h i d s' (by omega) (by omega)
    show clip (VAL (xs x2 k s q) (rs x1 k s (rowOf q g)) g h i) (v3 i) = _
    rw [this, hv]
  unfold TILE
  rw [shapeCast_apply _ _ _ (ix2 (d := ![32, 128]) (j 1).val (j 2).val h1 h2) (by
    rw [Shape.rowMajor_val_three, Shape.rowMajor_val_two]
    show (j 1).val * 128 + (j 2).val = ((j 0).val * 32 + (j 1).val) * 128 + (j 2).val
    omega)]
  by_cases hlt : (j 1).val < 16
  · refine (concatenate_pair_apply_left (t := S32x128) (s₁ := S16x128) (s₂ := S16x128) 0 (CLIP v3 (VAL (xs x2 k s q) (rs x1 k s (rowOf q g)) g 0))
      (CLIP v3 (VAL (xs x2 k s q) (rs x1 k s (rowOf q g)) g 1)) concatenates_S16x128_S16x128_S32x128_d0 (ix2 (d := ![32, 128]) (j 1).val (j 2).val h1 h2) rfl
      (ix2 (d := ![16, 128]) (j 1).val (j 2).val hlt h2) (fun b => by
      match b with
      | ⟨0, _⟩ => rfl
      | ⟨1, _⟩ => rfl)).trans ?_
    exact hclip 0 _ (by show (j 1).val = 16 * 0 + (j 1).val; omega) rfl
  · refine (concatenate_pair_apply_right (t := S32x128) (s₁ := S16x128) (s₂ := S16x128) 0 (CLIP v3 (VAL (xs x2 k s q) (rs x1 k s (rowOf q g)) g 0))
      (CLIP v3 (VAL (xs x2 k s q) (rs x1 k s (rowOf q g)) g 1)) concatenates_S16x128_S16x128_S32x128_d0 (ix2 (d := ![32, 128]) (j 1).val (j 2).val h1 h2) rfl rfl
      (ix2 (d := ![16, 128]) ((j 1).val - 16) (j 2).val (by show _ < 16; omega) h2)
      (fun b hb => by
        match b with
        | ⟨0, _⟩ => exact absurd rfl hb
        | ⟨1, _⟩ => rfl)
      (by show (j 1).val - 16 + 16 = (j 1).val; omega)).trans ?_
    exact hclip 1 _ (by show (j 1).val = 16 * 1 + ((j 1).val - 16); omega) rfl

/-- Every stored piece is a tile of some trip. -/
theorem mem_loopOUT (v3 : FVec Ideal S16x128 .bf16) (x1 : Vec Ideal S1x144x1152 .i8) (x2 : Vec Ideal S1x1152x4608 .fp8e4m3) (n : ℕ)
    (p : View.Piece (Elt Ideal) S1x4608x1152 .fp8e4m3) (hp : p ∈ loopOUT v3 x1 x2 n) :
    ∃ (k : Fin k0_t1_loop.trips) (t : Fin 9 × Fin 2 × Fin 4), p = piece v3 k (xs x2 k) (rs x1 k) t := by
  induction n with
  | zero => simp [loopOUT] at hp
  | succ n ih =>
    unfold loopOUT at hp
    split at hp
    · rename_i hlt
      rcases List.mem_append.1 hp with h | h
      · obtain ⟨t, _, rfl⟩ := List.mem_map.1 h
        exact ⟨⟨n, hlt⟩, t, rfl⟩
      · exact ih h
    · exact ih hp

/-- The codes a point leaves: at column `d`, row `s` the dequantised value times the inverse scale, clipped. -/
theorem codesOut_apply (v3 : FVec Ideal S16x128 .bf16) (iv : EReal) (hv : ∀ j, v3 j = iv) (x1 : Vec Ideal S1x144x1152 .i8)
    (x2 : Vec Ideal S1x1152x4608 .fp8e4m3) (y : S1x4608x1152.Idx) :
    codesOut v3 x1 x2 y = clip (val x1 x2 ⟨(y 1).val, (y 1).isLt⟩ ⟨(y 2).val, (y 2).isLt⟩) iv := by
  refine View.canon_apply_of_pieces (Val := Elt Ideal) (e := .fp8e4m3)
    (fun y : S1x4608x1152.Idx => (clip (val x1 x2 ⟨(y 1).val, (y 1).isLt⟩ ⟨(y 2).val, (y 2).isLt⟩) iv : EReal)) _ ?_ y (loopOUT_covers v3 x1 x2 y)
  intro p hp x
  obtain ⟨k, ⟨s, q, g⟩, rfl⟩ := mem_loopOUT v3 x1 x2 _ p hp
  have c : ∀ a, ((Rect.unit (s := S1x4608x1152) (offO k s (BitVec.ofNat 32 (128 * q.val)) (BitVec.ofNat 32 (32 * g.val))) S1x32x128.size (inbO k s q g)).emb x a).val
      = (![0, 256 * k.val + 128 * q.val + 32 * g.val, 128 * s.val] : Fin 3 → ℕ) a + (x a).val := fun a =>
    (Rect.idx_unit_val _ _ _ x a).trans (congrArg (· + (x a).val) (congrFun (offO_eq k s q g) a))
  exact TILE_apply v3 iv hv x1 x2 k s q g x _ _ (c 1) (c 2)

/-! ## The running largest magnitude -/

/-- A fold of tile steps is at most `z` at an index exactly when the start and every tile's magnitudes there are. -/
theorem foldl_STEP_le (x : Fin 9 × Fin 2 × Fin 4 → Vec Ideal S1x128x128 .fp8e4m3) (r : Fin 9 × Fin 2 × Fin 4 → Vec Ideal S1x1x128 .i32)
    (j : S16x128.Idx) (z : EReal) (L : List (Fin 9 × Fin 2 × Fin 4)) (acc : FVec Ideal S16x128 .bf16) :
    (L.foldl (fun a p => STEP a (x p) (r p) p.2.2) acc) j ≤ z
      ↔ acc j ≤ z ∧ ∀ p ∈ L, ∀ h : Fin 2, mabs (VAL (x p) (r p) p.2.2 h j) ≤ z := by
  induction L generalizing acc with
  | nil => simp
  | cons p L ih =>
    rw [List.foldl_cons, ih]
    have e : STEP acc (x p) (r p) p.2.2 j ≤ z ↔ acc j ≤ z ∧ ∀ h : Fin 2, mabs (VAL (x p) (r p) p.2.2 h j) ≤ z := by
      show max (max (acc j) (mabs (VAL (x p) (r p) p.2.2 0 j))) (mabs (VAL (x p) (r p) p.2.2 1 j)) ≤ z ↔ _
      rw [max_le_iff, max_le_iff, Fin.forall_fin_two, and_assoc]
    rw [e]
    simp only [List.mem_cons, forall_eq_or_imp, and_assoc]

/-- The carried value before trip `n`. -/
theorem loopACC_le (x1 : Vec Ideal S1x144x1152 .i8) (x2 : Vec Ideal S1x1152x4608 .fp8e4m3) (acc : FVec Ideal S16x128 .bf16)
    (j : S16x128.Idx) (z : EReal) (n : ℕ) (hn : n ≤ k0_t1_loop.trips) :
    loopACC x1 x2 acc n j ≤ z ↔ acc j ≤ z ∧ ∀ k : Fin k0_t1_loop.trips, k.val < n → ∀ (t : Fin 9 × Fin 2 × Fin 4) (h : Fin 2),
      mabs (VAL (xs x2 k t.1 t.2.1) (rs x1 k t.1 (rowOf t.2.1 t.2.2)) t.2.2 h j) ≤ z := by
  induction n with
  | zero => simp [loopACC]
  | succ n ih =>
    have hlt : n < k0_t1_loop.trips := hn
    have e : loopACC x1 x2 acc (n + 1) = tripACC x1 x2 ⟨n, hlt⟩ (loopACC x1 x2 acc n) := by simp only [loopACC, dif_pos hlt]
    rw [e, tripACC]
    refine (foldl_STEP_le (fun p => xs x2 ⟨n, hlt⟩ p.1 p.2.1) (fun p => rs x1 ⟨n, hlt⟩ p.1 (rowOf p.2.1 p.2.2)) j z tilesUp _).trans ?_
    rw [ih (Nat.le_of_lt hlt)]
    constructor
    · rintro ⟨⟨h1, h2⟩, h3⟩
      refine ⟨h1, fun k hk t h => ?_⟩
      rcases Nat.lt_or_ge k.val n with hk' | hk'
      · exact h2 k hk' t h
      · have : k = ⟨n, hlt⟩ := Fin.ext (by show k.val = n; omega)
        subst this
        exact h3 t (mem_tilesUp t) h
    · rintro ⟨h1, h2⟩
      exact ⟨⟨h1, fun k hk => h2 k (by omega)⟩, fun t _ h => h2 ⟨n, hlt⟩ (by show n < n + 1; omega) t h⟩

/-- The carried value after the loop is bounded by `z` everywhere exactly when the value before it and every dequantised magnitude of
    the point are. -/
theorem accOut_le (x1 : Vec Ideal S1x144x1152 .i8) (x2 : Vec Ideal S1x1152x4608 .fp8e4m3) (acc : FVec Ideal S16x128 .bf16) (z : EReal) :
    (∀ j, accOut x1 x2 acc j ≤ z) ↔ (∀ j, acc j ≤ z) ∧ ∀ (d : Fin 4608) (s : Fin 1152), mabs (val x1 x2 d s) ≤ z := by
  have key : ∀ j, accOut x1 x2 acc j ≤ z ↔ _ := fun j => loopACC_le x1 x2 acc j z k0_t1_loop.trips le_rfl
  constructor
  · intro H
    refine ⟨fun j => ((key j).1 (H j)).1, fun d s => ?_⟩
    have hd := d.isLt
    have hs := s.isLt
    have ht := trips_eq
    let k : Fin k0_t1_loop.trips := ⟨d.val / 256, by omega⟩
    let q : Fin 2 := ⟨d.val % 256 / 128, by omega⟩
    let g : Fin 4 := ⟨d.val % 128 / 32, by omega⟩
    let h : Fin 2 := ⟨d.val % 32 / 16, by omega⟩
    let j : S16x128.Idx := ix2 (d := ![16, 128]) (d.val % 16) (s.val % 128) (by show _ < 16; omega) (by show _ < 128; omega)
    let s9 : Fin 9 := ⟨s.val / 128, by omega⟩
    have := ((key j).1 (H j)).2 k k.isLt (s9, q, g) h
    rwa [VAL_apply x1 x2 k s9 q g h j d s
      (by show d.val = 256 * (d.val / 256) + 128 * (d.val % 256 / 128) + 32 * (d.val % 128 / 32) + 16 * (d.val % 32 / 16) + d.val % 16; omega)
      (by show s.val = 128 * (s.val / 128) + s.val % 128; omega)] at this
  · rintro ⟨H1, H2⟩ j
    refine (key j).2 ⟨H1 j, fun k _ t h => ?_⟩
    obtain ⟨s, q, g⟩ := t
    have hk := trip_lt k; have hs := s.isLt; have hq := q.isLt; have hg := g.isLt; have hh := h.isLt
    have hj0 : (j 0).val < 16 := (j 0).isLt
    have hj1 : (j 1).val < 128 := (j 1).isLt
    rw [VAL_apply x1 x2 k s q g h j ⟨256 * k.val + 128 * q.val + 32 * g.val + 16 * h.val + (j 0).val, by omega⟩
      ⟨128 * s.val + (j 1).val, by omega⟩ rfl rfl]
    exact H2 _ _

/-- The rows of the running maximum as the loop carries it survive being kept as pairs. -/
theorem pay4_pay6 (v : FVec Ideal S16x128 .bf16) : k0_pay4 (k0_pay6 v) = v := by
  unfold k0_pay4 k0_pay6
  dsimp only
  rw [rowsOfParity_zero_interleaveRows, rowsOfParity_one_interleaveRows]
  have e : ∀ w : FVec Ideal S8x128 .bf16, shapeCast S8x128 (shapeCast S8x1x128 w shapeCasts_S8x128_S8x1x128) shapeCasts_S8x1x128_S8x128 = w := by
    intro w
    funext i
    have h0 : (i 0).val < 8 := (i 0).isLt
    have h1 : (i 1).val < 128 := (i 1).isLt
    rw [shapeCast_apply _ _ _ (ix3 (d := ![8, 1, 128]) (i 0).val 0 (i 1).val h0 Nat.one_pos h1) (by
      rw [Shape.rowMajor_val_three, Shape.rowMajor_val_two]
      show ((i 0).val * 1 + 0) * 128 + (i 1).val = (i 0).val * 128 + (i 1).val; omega)]
    exact shapeCast_apply _ _ _ i (by
      rw [Shape.rowMajor_val_three, Shape.rowMajor_val_two]
      show (i 0).val * 128 + (i 1).val = ((i 0).val * 1 + 0) * 128 + (i 1).val; omega)
  rw [e, e, interleaveRows_rowsOfParity]

/-- The running maximum starts from zero. -/
theorem pay4_zero9 (j : S16x128.Idx) : k0_pay4 (zero9 (F := Ideal)) j = 0 := by
  have z : Ideal.ofBits .bf16 0x0000#16 = 0 := by simp [Ideal.ofBits, Ideal.ieee]
  have e : k0_pay4 (zero9 (F := Ideal)) = fun _ => Ideal.ofBits .bf16 0x0000#16 := by
    unfold k0_pay4 zero9
    exact interleaveRows_const _ _
  rw [e, z]

/-- One more point: the running maximum is bounded by `z` exactly when the one before it and the point's magnitudes are. -/
theorem acc9_le (x1 : Vec Ideal S1x144x1152 .i8) (x2 : Vec Ideal S1x1152x4608 .fp8e4m3) (a : Vec Ideal S8x2x128 .bf16) (z : EReal) :
    (∀ j, k0_pay4 (acc9 x1 x2 a) j ≤ z) ↔ (∀ j, k0_pay4 a j ≤ z) ∧ ∀ (d : Fin 4608) (s : Fin 1152), mabs (val x1 x2 d s) ≤ z := by
  unfold acc9
  rw [pay4_pay6]
  exact accOut_le x1 x2 _ z

/-- Every element of a reshaped vector is bounded exactly when every element of the vector is. -/
theorem shapeCast_le {s t : Shape} (x : s.Idx → EReal) (h : s.ShapeCasts t) (z : EReal) :
    (∀ i, shapeCast t x h i ≤ z) ↔ ∀ i, x i ≤ z :=
  ⟨fun H i => by
    have := H ((Shape.reshapeEquiv h).symm i)
    unfold shapeCast at this
    rwa [Equiv.apply_symm_apply] at this, fun H i => H _⟩

/-- The one index of a vector of length one. -/
def one0 : S1.Idx := fun a => match a with | ⟨0, _⟩ => ⟨0, Nat.one_pos⟩

theorem size_S1 : ∀ b, S1.size b = 1 := by decide

/-- The one entry of a vector of length one, taken out through a reshape. -/
theorem extract_one (m : FVec Ideal S1 .f32) (j0 : S1.Idx) :
    extractAt ![0, 0, 0] (shapeCast S1x1x1 m shapeCasts_S1_S1x1x1) inpos_S1x1x1_p0_0_0 = m j0 := by
  unfold extractAt shapeCast
  refine congrArg m (funext fun a => Fin.ext ?_)
  match a with
  | ⟨0, _⟩ =>
    have h1 : ∀ i : S1.Idx, (i 0).val = 0 := fun i => by have : (i 0).val < 1 := (i 0).isLt; omega
    exact (h1 _).trans (h1 _).symm

/-- The overall maximum is bounded by `z` exactly when the running maximum is. -/
theorem pay7_le (a : Vec Ideal S8x2x128 .bf16) (i : S1x1.Idx) (z : EReal) : k0_pay7 a i ≤ z ↔ ∀ j, k0_pay4 a j ≤ z := by
  have e : k0_pay7 a i = multiReduction (F := Ideal) .maximumf [1, 2] S1 (shapeCast S1x16x128 (extf .f32 (k0_pay4 a) bitsLt_bf16_f32 : FVec Ideal S16x128 .f32) shapeCasts_S16x128_S1x16x128)
      0xFF800000#32 reduces_S1x16x128_S1 (.inl rfl) rfl one0 := by
    unfold k0_pay7 k0_pay4
    unfold broadcast
    exact extract_one _ _
  rw [e]
  refine (multiReduction_max_le (t := S1) .f32 _ 0xFF800000#32 _ size_S1 (.inl rfl) rfl one0 z).trans ?_
  rw [negInf_f32]
  exact (and_iff_right bot_le).trans (shapeCast_le (s := S16x128) (k0_pay4 a) shapeCasts_S16x128_S1x16x128 z)

/-! ## The scale -/

/-- The history's maximum the kernel computes is bounded by `z` exactly when every entry is. -/
theorem pay8_le (x0 : Vec Ideal S8x128 .f32) (j : S8x128.Idx) (z : EReal) : k0_pay8 x0 j ≤ z ↔ ∀ i, x0 i ≤ z := by
  have e : k0_pay8 x0 j = multiReduction (F := Ideal) .maximumf [1, 2] S1 (shapeCast S1x8x128 (shapeCast S8x128 x0 shapeCasts_S8x128_S8x128) shapeCasts_S8x128_S1x8x128 : FVec Ideal S1x8x128 .f32)
      0xFF800000#32 reduces_S1x8x128_S1 (.inl rfl) rfl one0 := by
    unfold k0_pay8
    unfold broadcast
    exact extract_one _ _
  rw [e]
  refine (multiReduction_max_le (t := S1) .f32 _ 0xFF800000#32 _ size_S1 (.inl rfl) rfl one0 z).trans ?_
  rw [negInf_f32]
  exact (and_iff_right bot_le).trans ((shapeCast_le (s := S8x128) (shapeCast S8x128 x0 shapeCasts_S8x128_S8x128) shapeCasts_S8x128_S1x8x128 z).trans
    (shapeCast_le (s := S8x128) x0 shapeCasts_S8x128_S8x128 z))

/-- One step of the kernel's search, on vectors. -/
def stepVec (A : FVec Ideal S8x128 .f32) (b : BitVec 32) (f : IVec S8x128 32) : IVec S8x128 32 :=
  select (cmpf .oge A (bitcastToFloat .f32 (shli (addi f (broadcast S8x128 b)) (broadcast S8x128 23#32)))) (addi f (broadcast S8x128 b)) f

theorem stepVec_apply (A : FVec Ideal S8x128 .f32) (b : BitVec 32) (f : IVec S8x128 32) (j : S8x128.Idx) :
    stepVec A b f j = step (fun c => Ideal.cmp .oge (A j) (Ideal.ofBits .f32 (c <<< 23))) b (f j) := rfl

theorem pay10_eq (x0 : Vec Ideal S8x128 .f32) :
    k0_pay10 x0 = stepVec (k0_pay9 x0) 32#32 (stepVec (k0_pay9 x0) 64#32 (stepVec (k0_pay9 x0) 128#32 (broadcast S8x128 0#32))) := rfl

theorem field_eq (x0 : Vec Ideal S8x128 .f32) :
    field x0 = stepVec (k0_pay9 x0) 1#32 (stepVec (k0_pay9 x0) 2#32 (stepVec (k0_pay9 x0) 4#32 (stepVec (k0_pay9 x0) 8#32
      (stepVec (k0_pay9 x0) 16#32 (k0_pay10 x0))))) := rfl

/-- The field the kernel finds, at every position. -/
theorem field_apply (x0 : Vec Ideal S8x128 .f32) (j : S8x128.Idx) : field x0 j = fieldOf (k0_pay8 x0 j) := by
  rw [field_eq, pay10_eq]
  simp only [stepVec_apply]
  rfl

/-- The kernel's exponent, at every position. -/
theorem pay1_apply (x0 : Vec Ideal S8x128 .f32) (j : S8x128.Idx) :
    k0_pay1 (k0_pay8 x0) (field x0) (fieldEnd x0) (Scalar.ofBits .f32 0x00000000#32 : Ideal .f32) j = exponentOf (k0_pay8 x0 j) := by
  have e : fieldEnd x0 j = IntOp.cmpi .eq (field x0 j) 0#32 ||| IntOp.cmpi .eq (field x0 j) 255#32 := rfl
  show (if (fieldEnd x0 j ||| Ideal.cmp .oeq (k0_pay8 x0 j) (Ideal.ofBits .f32 0x00000000#32)) = 1#1 then (0#32 : BitVec 32)
    else field x0 j - 126#32) = _
  rw [e, field_apply]
  rfl

/-- The scale a point stores. -/
theorem scaleOf_apply (x0 : Vec Ideal S8x128 .f32) (i : S1x1.Idx) (h : EReal) (hh : ∀ j, k0_pay8 x0 j = h) :
    scaleOf x0 i = Ideal.ofBits .f32 ((exponentOf h + 127#32) <<< 23) := by
  unfold scaleOf k0_pay2
  rw [extractStridedSlice_apply _ _ _ i (ix2 (d := ![8, 128]) 0 0 (by decide) (by decide)) (fun a => by
    match a with
    | ⟨0, _⟩ => show 0 = 0 + (i 0).val; have : (i 0).val < 1 := (i 0).isLt; omega
    | ⟨1, _⟩ => show 0 = 0 + (i 1).val; have : (i 1).val < 1 := (i 1).isLt; omega)]
  show Ideal.ofBits .f32 ((k0_pay1 (k0_pay8 x0) (field x0) (fieldEnd x0) (Scalar.ofBits .f32 0x00000000#32 : Ideal .f32) _ + 127#32) <<< 23) = _
  rw [pay1_apply, hh]

/-- The inverse scale it keeps. -/
theorem invOf_apply (x0 : Vec Ideal S8x128 .f32) (i : S16x128.Idx) (h : EReal) (hh : ∀ j, k0_pay8 x0 j = h) :
    invOf x0 i = Ideal.ofBits .f32 ((0#32 - exponentOf h + 127#32) <<< 23) := by
  obtain ⟨v, hv⟩ : ∃ v : FVec Ideal S8x128 .f32, v = bitcastToFloat (F := Ideal) .f32 (shli (addi (subi (broadcast S8x128 0#32) (k0_pay1 (k0_pay8 x0) (field x0) (fieldEnd x0)
      (Scalar.ofBits .f32 0x00000000#32 : Ideal .f32))) (broadcast S8x128 127#32)) (broadcast S8x128 23#32)) := ⟨_, rfl⟩
  have key : ∀ j, v j = Ideal.ofBits .f32 ((0#32 - exponentOf h + 127#32) <<< 23) := by
    intro j
    rw [hv]
    show Ideal.ofBits .f32 ((0#32 - k0_pay1 (k0_pay8 x0) (field x0) (fieldEnd x0) (Scalar.ofBits .f32 0x00000000#32 : Ideal .f32) j + 127#32) <<< 23) = _
    rw [pay1_apply, hh]
  have h0 : (i 0).val < 16 := (i 0).isLt
  have h1 : (i 1).val < 128 := (i 1).isLt
  unfold invOf k0_pay3
  rw [← hv, shapeCast_apply _ _ _ i rfl]
  by_cases hlt : (i 0).val < 8
  · refine (concatenate_pair_apply_left (t := S16x128) (s₁ := S8x128) (s₂ := S8x128) 0 v v concatenates_S8x128_S8x128_S16x128_d0 i rfl
      (ix2 (d := ![8, 128]) (i 0).val (i 1).val hlt h1) (fun b => by
      match b with
      | ⟨0, _⟩ => rfl
      | ⟨1, _⟩ => rfl)).trans ?_
    exact key _
  · refine (concatenate_pair_apply_right (t := S16x128) (s₁ := S8x128) (s₂ := S8x128) 0 v v concatenates_S8x128_S8x128_S16x128_d0 i rfl rfl
      (ix2 (d := ![8, 128]) ((i 0).val - 8) (i 1).val (by show _ < 8; omega) h1)
      (fun b hb => by
        match b with
        | ⟨0, _⟩ => exact absurd rfl hb
        | ⟨1, _⟩ => rfl)
      (by show (i 0).val - 8 + 8 = (i 0).val; omega)).trans ?_
    exact key _

end Cert.KernelIdeal.Run

end
-- ==== Proof.ReferenceElements.lean ====
/- The results of the requantiser over the extended reals, as functions of its three arrays, and the reference's operations read
   element by element: they are those functions. -/
module

public import proofs.«01_k».proof.Proof.Codes
public import proofs.«01_k».proof.Proof.Gen.ReferenceIdeal.Frame

@[expose] public section

set_option maxRecDepth 16384

noncomputable section

namespace Cert.ReferenceIdeal.Value

open Cert.ReferenceIdeal Cert.ReferenceIdeal.Gen Idealize.ShloMosaic Idealize.ShloMosaic.TcCoe Cert.Requant
open Cert.KernelIdeal.Run (ix3 clip mabs shapeCast_le)

/-- The index of the scale byte of an element: 32 neighbours along the last axis share one. -/
def group (j : S32x1152x4608.Idx) : S32x1152x144.Idx :=
  ix3 (d := ![32, 1152, 144]) (j 0).val (j 1).val ((j 2).val / 32) (j 0).isLt (j 1).isLt
    (by have : (j 2).val < 4608 := (j 2).isLt; show _ < 144; omega)

/-- The element of the input that a result's element comes from: the last two axes exchanged. -/
def flip (j : S32x4608x1152.Idx) : S32x1152x4608.Idx :=
  ix3 (d := ![32, 1152, 4608]) (j 0).val (j 2).val (j 1).val (j 0).isLt (j 2).isLt (j 1).isLt

/-- An index of a rank-one shape from its coordinate. -/
def ix1 {d : Fin 1 → ℕ} (a : ℕ) (ha : a < d 0) : (⟨1, d⟩ : Shape).Idx := fun i => match i with | ⟨0, _⟩ => ⟨a, ha⟩

/-- An index of a rank-four shape from its coordinates. -/
def ix4 {d : Fin 4 → ℕ} (a b c e : ℕ) (ha : a < d 0) (hb : b < d 1) (hc : c < d 2) (he : e < d 3) : (⟨4, d⟩ : Shape).Idx :=
  fun i => match i with | ⟨0, _⟩ => ⟨a, ha⟩ | ⟨1, _⟩ => ⟨b, hb⟩ | ⟨2, _⟩ => ⟨c, hc⟩ | ⟨3, _⟩ => ⟨e, he⟩

/-- The multiplier a scale byte stands for: two to the byte less 127. -/
def mult (s : BitVec 8) : EReal := Ideal.exp2 ((((s.setWidth 32).toInt : ℝ) : EReal) - Ideal.ofBits .f32 0x42FE0000#32)

/-- The dequantised value of an element. -/
def deq (X : FVec Ideal S32x1152x4608 .fp8e4m3) (S : IVec S32x1152x144 8) (j : S32x1152x4608.Idx) : EReal := X j * mult (S (group j))

/-- The largest entry of the history. -/
def top (H : FVec Ideal S1024 .f32) : EReal := ⨆ i, (H i : EReal)

/-- The codes: the dequantised values times the inverse scale, clipped, with the last two axes exchanged. -/
def codes (X : FVec Ideal S32x1152x4608 .fp8e4m3) (S : IVec S32x1152x144 8) (H : FVec Ideal S1024 .f32) : FVec Ideal S32x4608x1152 .fp8e4m3 :=
  fun j => clip (deq X S (flip j)) (Ideal.exp2 (Ideal.ofBits .f32 0x00000000#32 - refExponent (top H)))
/-- The scale: two to the exponent of the history's largest entry. -/
def scale (H : FVec Ideal S1024 .f32) : FVec Ideal S1x1 .f32 := fun _ => Ideal.exp2 (refExponent (top H))
/-- The largest magnitude of the dequantised values. -/
def amax (X : FVec Ideal S32x1152x4608 .fp8e4m3) (S : IVec S32x1152x144 8) : FVec Ideal S1x1 .f32 := fun _ => ⨆ j, mabs (deq X S j)

/-! ## The reference's operations -/

/-- The dequantised values the reference computes. -/
theorem pay3_apply (x0 : Vec Ideal S32x1152x4608 .fp8e4m3) (x1 : Vec Ideal S32x1152x144 .i8) (j : S32x1152x4608.Idx) :
    k0_pay3 x0 x1 j = deq x0 x1 j := by
  have h0 : (j 0).val < 32 := (j 0).isLt
  have h1 : (j 1).val < 1152 := (j 1).isLt
  have h2 : (j 2).val < 4608 := (j 2).isLt
  have hg : (j 2).val / 32 < 144 := by omega
  have hm : (j 2).val % 32 < 32 := Nat.mod_lt _ (by decide)
  unfold k0_pay3
  refine (shapeCast_apply (s := S32x1152x144x32) (t := S32x1152x4608) _ _ j
    (ix4 (d := ![32, 1152, 144, 32]) (j 0).val (j 1).val ((j 2).val / 32) ((j 2).val % 32) h0 h1 hg hm) (by
      rw [Shape.rowMajor_val_four, Shape.rowMajor_val_three]
      show (((j 0).val * 1152 + (j 1).val) * 144 + (j 2).val / 32) * 32 + (j 2).val % 32 = ((j 0).val * 1152 + (j 1).val) * 4608 + (j 2).val
      omega)).trans ?_
  refine congrArg₂ (fun a b : EReal => a * b) ?_ ?_
  · refine (shapeCast_apply (s := S32x1152x4608) (t := S32x1152x144x32) _ _ _ j (by
      rw [Shape.rowMajor_val_four, Shape.rowMajor_val_three]
      show ((j 0).val * 1152 + (j 1).val) * 4608 + (j 2).val = (((j 0).val * 1152 + (j 1).val) * 144 + (j 2).val / 32) * 32 + (j 2).val % 32
      omega)).trans ?_
    rfl
  · refine (broadcastTo_apply (s := S32x1152x144x1) (t := S32x1152x144x32) _ _ _
      (ix4 (d := ![32, 1152, 144, 1]) (j 0).val (j 1).val ((j 2).val / 32) 0 h0 h1 hg Nat.one_pos) (fun a => by
        match a with
        | ⟨0, _⟩ => rfl
        | ⟨1, _⟩ => rfl
        | ⟨2, _⟩ => rfl
        | ⟨3, _⟩ => rfl)).trans ?_
    refine (shapeCast_apply (s := S32x1152x144) (t := S32x1152x144x1) _ _ _ (group j) (by
      rw [Shape.rowMajor_val_four, Shape.rowMajor_val_three]
      show ((j 0).val * 1152 + (j 1).val) * 144 + (j 2).val / 32 = (((j 0).val * 1152 + (j 1).val) * 144 + (j 2).val / 32) * 1 + 0
      omega)).trans ?_
    rfl

/-- The exponent the reference computes from the history's maximum. -/
theorem pay4_apply (x2 : Vec Ideal S1x1 .f32) (h : EReal) (hh : ∀ i, x2 i = h) (i : S1x1.Idx) : k0_pay4 x2 i = refExponent h := by
  have e : shapeCast S1x1 x2 shapeCasts_S1x1_S1x1 i = h := (shapeCast_apply _ _ i i rfl).trans (hh i)
  unfold k0_pay4
  show (if Ideal.cmp .oeq (shapeCast S1x1 x2 shapeCasts_S1x1_S1x1 i) (Ideal.ofBits .f32 0x00000000#32) = 1#1 then Ideal.ofBits .f32 0x00000000#32
    else Ideal.liftRound Int.floor (Ideal.div (Ideal.log (max (shapeCast S1x1 x2 shapeCasts_S1x1_S1x1 i * Ideal.ofBits .f32 0x3B124925#32)
      (-(shapeCast S1x1 x2 shapeCasts_S1x1_S1x1 i * Ideal.ofBits .f32 0x3B124925#32)))) (Ideal.log (Ideal.ofBits .f32 0x40000000#32)))
      + Ideal.ofBits .f32 0x3F800000#32) = _
  rw [e]
  rfl

/-- The scale the reference stores. -/
theorem pay1_apply (x2 : Vec Ideal S1x1 .f32) (h : EReal) (hh : ∀ i, x2 i = h) (i : S1x1.Idx) :
    k0_pay1 (k0_pay4 x2) i = Ideal.exp2 (refExponent h) :=
  congrArg Ideal.exp2 (pay4_apply x2 h hh i)

/-- The codes the reference stores. -/
theorem pay5_apply (x0 : Vec Ideal S32x1152x4608 .fp8e4m3) (x1 : Vec Ideal S32x1152x144 .i8) (x2 : Vec Ideal S1x1 .f32) (h : EReal)
    (hh : ∀ i, x2 i = h) (j : S32x4608x1152.Idx) :
    k0_pay5 x0 x1 x2 j = clip (deq x0 x1 (flip j)) (Ideal.exp2 (Ideal.ofBits .f32 0x00000000#32 - refExponent h)) := by
  unfold k0_pay5
  refine congrArg₂ clip ?_ ?_
  · refine (transpose_apply _ _ _ j (flip j) (fun b => by
      match b with
      | ⟨0, _⟩ => rfl
      | ⟨1, _⟩ => rfl
      | ⟨2, _⟩ => rfl)).trans ?_
    exact pay3_apply x0 x1 (flip j)
  · refine (broadcastTo_apply (s := S1x1x1) (t := S32x4608x1152) _ _ _ (ix3 (d := ![1, 1, 1]) 0 0 0 Nat.one_pos Nat.one_pos Nat.one_pos) (fun a => by
      match a with
      | ⟨0, _⟩ => rfl
      | ⟨1, _⟩ => rfl
      | ⟨2, _⟩ => rfl)).trans ?_
    exact congrArg (fun e => Ideal.exp2 (Ideal.ofBits .f32 0x00000000#32 - e)) (pay4_apply x2 h hh _)

theorem size_one : ∀ b, S1.size b = 1 := by decide

/-- The one entry of a vector of length one, taken out through a reshape. -/
theorem extract_first (m : FVec Ideal S1 .f32) (j0 : S1.Idx) :
    extractAt ![0, 0, 0, 0] (shapeCast S1x1x1x1 m shapeCasts_S1_S1x1x1x1) inpos_S1x1x1x1_p0_0_0_0 = m j0 := by
  unfold extractAt shapeCast
  refine congrArg m (funext fun a => Fin.ext ?_)
  match a with
  | ⟨0, _⟩ =>
    have h1 : ∀ i : S1.Idx, (i 0).val = 0 := fun i => by have : (i 0).val < 1 := (i 0).isLt; omega
    exact (h1 _).trans (h1 _).symm

/-- A maximum of magnitudes over every index of a shape is bounded by `z` exactly when every magnitude is. -/
theorem maxAbs_le {s s' : Shape} {axes : List (Fin s'.rank)} (v : FVec Ideal s .f32) (hc : s.ShapeCasts s') (hr : s'.Reduces axes S1)
    (hφ : FKind.Formats .f32) (hacc : (0xFF800000#32 : BitVec 32) = FKind.maximumf.neutral .f32 hφ) (j : S1.Idx) (z : EReal) :
    multiReduction (F := Ideal) .maximumf axes S1 (shapeCast s' (absf v : FVec Ideal s .f32) hc) 0xFF800000#32 hr hφ hacc j ≤ z
      ↔ ∀ i, mabs (v i) ≤ z := by
  refine (multiReduction_max_le (t := S1) .f32 _ 0xFF800000#32 _ size_one hφ hacc j z).trans ?_
  rw [negInf_f32]
  exact (and_iff_right bot_le).trans (shapeCast_le (absf v : FVec Ideal s .f32) hc z)

/-- The maximum the reference takes of the magnitudes. -/
def maxOf {F : FTy → Type} [FloatOps F] (v : FVec F S32x1152x4608 .f32) : FVec F S1 .f32 :=
  multiReduction .maximumf [1, 2, 3] S1 (shapeCast S1x32x1152x4608 (absf v) shapeCasts_S32x1152x4608_S1x32x1152x4608)
    0xFF800000#32 reduces_S1x32x1152x4608_S1 (.inl rfl) rfl

/-- The reference stores it. -/
theorem pay2_form {F : FTy → Type} [FloatOps F] (v : FVec F S32x1152x4608 .f32) :
    k0_pay2 v = broadcast S1x1 (extractAt ![0, 0, 0, 0] (shapeCast S1x1x1x1 (maxOf v) shapeCasts_S1_S1x1x1x1) inpos_S1x1x1x1_p0_0_0_0) := by
  unfold k0_pay2
  rfl

/-- The same, spread over the result's one element. -/
theorem broadcast_first (m : FVec Ideal S1 .f32) (i : S1x1.Idx) (j : S1.Idx) :
    broadcast S1x1 (extractAt ![0, 0, 0, 0] (shapeCast S1x1x1x1 m shapeCasts_S1_S1x1x1x1) inpos_S1x1x1x1_p0_0_0_0) i = m j := by
  unfold broadcast
  exact extract_first m j

/-- So the reference stores that maximum. -/
theorem pay2_eq (v : FVec Ideal S32x1152x4608 .f32) (i : S1x1.Idx) (j : S1.Idx) : k0_pay2 v i = maxOf v j := by
  have e := pay2_form v
  have e2 := congrFun e i
  have e3 := broadcast_first (maxOf v) i j
  clear e
  generalize maxOf v = w at e2 e3 ⊢
  exact e2.trans e3

/-- It is bounded by `z` exactly when every magnitude is. -/
theorem pay2_le (v : FVec Ideal S32x1152x4608 .f32) (i : S1x1.Idx) (z : EReal) : k0_pay2 v i ≤ z ↔ ∀ j, mabs (v j) ≤ z := by
  rw [pay2_eq v i (ix1 (d := ![1]) 0 Nat.one_pos)]
  exact maxAbs_le v shapeCasts_S32x1152x4608_S1x32x1152x4608 reduces_S1x32x1152x4608_S1 (.inl rfl) rfl _ z

end Cert.ReferenceIdeal.Value

end
-- ==== Proof.KernelValue.lean ====
/- What the idealized kernel leaves in its three results over the extended reals, read off its run: the windows' blocks as parts of
   the arguments, the codes point by point, the scale, and the largest magnitude carried through the 32 points. -/
module

public import proofs.«01_k».proof.Proof.ValueRun
public import proofs.«01_k».proof.Proof.ReferenceElements
public import Idealize.ShloMosaic.Lib.Pipeline.ValueKit.Geometry

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen Cert.KernelIdeal.Run Cert.Requant
open Cert.ReferenceIdeal.Value (group flip mult deq top codes scale amax)

variable (m : (ℓ : Loc nD τ sig) → Buf (Elt Ideal) ℓ) (ρ : Dev nD → PrngReg)

/-- The input codes, -/
def argX (c : Dev nD) : FVec Ideal S32x1152x4608 .fp8e4m3 := m ((c : Thread nD τ).loc main_arg0)
/-- the scale bytes, -/
def argS (c : Dev nD) : IVec S32x1152x144 8 := m ((c : Thread nD τ).loc main_arg1)
/-- and the history. -/
def argH (c : Dev nD) : FVec Ideal S1024 .f32 := m ((c : Thread nD τ).loc main_arg2)

/-! ## The arrays the region finds -/

/-- The history as rows. -/
theorem V_main_v0 (c : Dev nD) : V m c main_v0 = shapeCast S8x128 (argH m c) shapeCasts_S1024_S8x128 := by
  show StableHlo.after hostOps0 _ (Proc.devRef .tc main_v0) = _
  after_results
  rfl
/-- The scale bytes with the last two axes exchanged. -/
theorem V_main_v1 (c : Dev nD) : V m c main_v1 = transpose S32x144x1152 [0, 2, 1] (argS m c) transposes_S32x1152x144_S32x144x1152_0_2_1 := by
  show StableHlo.after hostOps0 _ (Proc.devRef .tc main_v1) = _
  after_results
  rfl

/-! ## The blocks -/

theorem index0 : win0_0.index (tOf 0) 0 = 0 ∧ win0_0.index (tOf 0) 1 = 0 := by decide +kernel
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The history's block is the whole array. -/
theorem hist_eq (c : Dev nD) : hist m c = shapeCast S8x128 (argH m c) shapeCasts_S1024_S8x128 := by
  funext j
  unfold hist iblk
  rw [View.read_apply]
  show V m c main_v0 _ = _
  rw [V_main_v0]
  congr 1
  funext a
  apply Fin.ext
  match a with
  | ⟨0, _⟩ => show win0_0.index (tOf 0) 0 * 8 + 1 * (j 0).val = (j 0).val; rw [index0.1]; omega
  | ⟨1, _⟩ => show win0_0.index (tOf 0) 1 * 128 + 1 * (j 1).val = (j 1).val; rw [index0.2]; omega

/-- A point's scale bytes: the bytes of its slice, groups before rows. -/
theorem iblk1_apply (c : Dev nD) (t : Fin cfg0.N) (g : Fin 144) (s : Fin 1152) :
    iblk m c 1 t (ix3 (d := ![1, 144, 1152]) 0 g.val s.val Nat.one_pos g.isLt s.isLt)
      = argS m c (ix3 (d := ![32, 1152, 144]) t.val s.val g.val (lt32 t) s.isLt g.isLt) := by
  unfold iblk
  rw [View.read_apply]
  show V m c main_v1 _ = _
  rw [V_main_v1]
  refine transpose_apply _ _ _ _ _ (fun b => ?_)
  match b with
  | ⟨0, _⟩ => show t.val = win0_1.index t 0 * 1 + 1 * 0; rw [(index1 t).1]; omega
  | ⟨1, _⟩ => show g.val = win0_1.index t 1 * 144 + 1 * g.val; rw [(index1 t).2.1]; omega
  | ⟨2, _⟩ => show s.val = win0_1.index t 2 * 1152 + 1 * s.val; rw [(index1 t).2.2]; omega

/-- A point's codes: those of its slice. -/
theorem iblk2_apply (c : Dev nD) (t : Fin cfg0.N) (s : Fin 1152) (d : Fin 4608) :
    iblk m c 2 t (ix3 (d := ![1, 1152, 4608]) 0 s.val d.val Nat.one_pos s.isLt d.isLt)
      = argX m c (ix3 (d := ![32, 1152, 4608]) t.val s.val d.val (lt32 t) s.isLt d.isLt) := by
  unfold iblk
  rw [View.read_apply]
  show V m c main_arg0 _ = _
  rw [V_main_arg0]
  show argX m c _ = _
  congr 1
  funext a
  apply Fin.ext
  match a with
  | ⟨0, _⟩ => show win0_2.index t 0 * 1 + 1 * 0 = t.val; rw [(index2 t).1]; omega
  | ⟨1, _⟩ => show win0_2.index t 1 * 1152 + 1 * s.val = s.val; rw [(index2 t).2.1]; omega
  | ⟨2, _⟩ => show win0_2.index t 2 * 4608 + 1 * d.val = d.val; rw [(index2 t).2.2]; omega

/-- A scale byte of a finite nonzero multiplier. -/
def BytesInRange (S : IVec S32x1152x144 8) : Prop := ∀ i, 1 ≤ (S i : BitVec 8).toNat ∧ (S i : BitVec 8).toNat ≤ 254

/-- The dequantised value at a point is the one the mathematics names. -/
theorem val_eq (c : Dev nD) (hS : BytesInRange (argS m c)) (t : Fin cfg0.N) (d : Fin 4608) (s : Fin 1152) :
    val (iblk m c 1 t) (iblk m c 2 t) d s
      = deq (argX m c) (argS m c) (ix3 (d := ![32, 1152, 4608]) t.val s.val d.val (lt32 t) s.isLt d.isLt) := by
  have e1 := iblk1_apply m c t ⟨d.val / 32, group_lt d⟩ s
  have e2 := iblk2_apply m c t s d
  unfold val
  refine (congrArg₂ elt e2 e1).trans ?_
  unfold elt deq mult
  exact congrArg (_ * ·) (mult_eq _ (hS _).1 (hS _).2)

/-! ## The scale -/

/-- The maximum the kernel takes of the history is its largest entry. -/
theorem pay8_hist (c : Dev nD) (j : S8x128.Idx) : k0_pay8 (hist m c) j = top (argH m c) := by
  refine eq_of_forall_ge_iff (α := EReal) fun z => ?_
  refine (pay8_le _ j z).trans ?_
  rw [hist_eq]
  refine (shapeCast_le (s := S1024) (argH m c) shapeCasts_S1024_S8x128 z).trans ?_
  unfold top
  exact iSup_le_iff.symm

/-- The scale stored is the scale. -/
theorem scaleOf_hist (c : Dev nD) (hr : InRange (top (argH m c))) : scaleOf (hist m c) = scale (argH m c) :=
  funext fun i => (scaleOf_apply _ i _ (pay8_hist m c)).trans (exponent_eq _ hr).1
/-- The inverse scale kept is the inverse. -/
theorem invOf_hist (c : Dev nD) (hr : InRange (top (argH m c))) (i : S16x128.Idx) :
    invOf (hist m c) i = Ideal.exp2 (Ideal.ofBits .f32 0x00000000#32 - refExponent (top (argH m c))) :=
  (invOf_apply _ i _ (pay8_hist m c)).trans (exponent_eq _ hr).2

/-! ## The largest magnitude -/

/-- The running maximum after point `n` is bounded by `z` exactly when zero and every magnitude of the points so far are. -/
theorem accN_le (c : Dev nD) (hS : BytesInRange (argS m c)) (z : EReal) : ∀ n, (∀ j, k0_pay4 (accN m c n) j ≤ z) ↔
    0 ≤ z ∧ ∀ k, k ≤ n → ∀ (d : Fin 4608) (s : Fin 1152), mabs (val (iblk m c 1 (tOf k)) (iblk m c 2 (tOf k)) d s) ≤ z
  | 0 => by
    unfold accN
    refine (acc9_le _ _ _ z).trans (and_congr ⟨fun h => ?_, fun h j => ?_⟩ ⟨fun h k hk => ?_, fun h => h 0 le_rfl⟩)
    · have := h (ix2 (d := ![16, 128]) 0 0 (by decide) (by decide))
      rwa [pay4_zero9] at this
    · rw [pay4_zero9]; exact h
    · obtain rfl : k = 0 := by omega
      exact h
  | n + 1 => by
    unfold accN
    refine (acc9_le _ _ _ z).trans ?_
    rw [accN_le c hS z n]
    constructor
    · rintro ⟨⟨h0, h1⟩, h2⟩
      refine ⟨h0, fun k hk => ?_⟩
      rcases Nat.lt_or_ge n k with h | h
      · obtain rfl : k = n + 1 := by omega
        exact h2
      · exact h1 k h
    · rintro ⟨h0, h1⟩
      exact ⟨⟨h0, fun k hk => h1 k (by omega)⟩, h1 (n + 1) le_rfl⟩

/-- The overall maximum after the last point is the largest magnitude. -/
theorem pay7_accN (c : Dev nD) (hS : BytesInRange (argS m c)) (t : Fin cfg0.N) (ht : t.val = 31) :
    k0_pay7 (accN m c t.val) = amax (argX m c) (argS m c) := by
  funext i
  refine eq_of_forall_ge_iff (α := EReal) fun z => ?_
  refine (pay7_le _ i z).trans ((accN_le m c hS z _).trans ?_)
  rw [ht]
  unfold amax
  refine Iff.trans ?_ iSup_le_iff.symm
  constructor
  · rintro ⟨-, h⟩ j
    have hj0 : (j 0).val < 32 := (j 0).isLt
    have := h (j 0).val (by omega) ⟨(j 2).val, (j 2).isLt⟩ ⟨(j 1).val, (j 1).isLt⟩
    rw [val_eq m c hS] at this
    refine le_of_eq_of_le (congrArg (fun i => mabs (deq (argX m c) (argS m c) i)) (funext fun a => Fin.ext ?_)) this
    match a with
    | ⟨0, _⟩ => exact (Nat.mod_eq_of_lt hj0).symm
    | ⟨1, _⟩ => rfl
    | ⟨2, _⟩ => rfl
  · intro h
    refine ⟨(mabs_nonneg _).trans (h (ix3 (d := ![32, 1152, 4608]) 0 0 0 (by decide) (by decide) (by decide))), fun k hk d s => ?_⟩
    rw [val_eq m c hS]
    exact h _

/-! ## The results -/

/-- The last point. -/
def tLast : Fin cfg0.N := ⟨31, by rw [N_eq]; decide⟩

theorem whole4 : (cfg0.win 4).WholeAt tLast :=
  ⟨(flush0_4 _).2 rfl, fun t h => Fin.ext (by have := (flush0_4 t).1 h; have := lt32 t; show t.val = 31; omega), by decide +kernel⟩
theorem whole5 : (cfg0.win 5).WholeAt tLast :=
  ⟨(flush0_5 _).2 rfl, fun t h => Fin.ext (by have := (flush0_5 t).1 h; have := lt32 t; show t.val = 31; omega), by decide +kernel⟩

/-- The second result is the scale. -/
theorem arr4 (c : Dev nD) (hr : InRange (top (argH m c))) : (dats m 0 c).arrAt 4 cfg0.N = scale (argH m c) :=
  (dats m 0 c).arrAt_eq_of_after_last 4 tLast whole4 _ fun j => by
    have e := (after0_4 m c tLast).trans (scaleOf_hist m c hr)
    exact congrFun e _

/-- The third result is the largest magnitude. -/
theorem arr5 (c : Dev nD) (hS : BytesInRange (argS m c)) : (dats m 0 c).arrAt 5 cfg0.N = amax (argX m c) (argS m c) :=
  (dats m 0 c).arrAt_eq_of_after_last 5 tLast whole5 _ fun j => by
    have e := (after0_5 m c tLast).trans (pay7_accN m c hS tLast rfl)
    exact congrFun e _

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have e := congrFun h 0
    exact (index3 t).1.symm.trans (e.trans (index3 t').1)))

/-- The first result is the codes. -/
theorem arr3 (c : Dev nD) (hS : BytesInRange (argS m c)) (hr : InRange (top (argH m c))) :
    (dats m 0 c).arrAt 3 cfg0.N = codes (argX m c) (argS m c) (argH m c) := by
  funext i
  have h0 : (i 0).val < 32 := (i 0).isLt
  have h1 : (i 1).val < 4608 := (i 1).isLt
  have h2 : (i 2).val < 1152 := (i 2).isLt
  have hp := N_eq
  obtain ⟨t, ht⟩ : ∃ t : Fin cfg0.N, t.val = (i 0).val := ⟨⟨(i 0).val, by omega⟩, rfl⟩
  obtain ⟨y, hy⟩ : ∃ y : S1x4608x1152.Idx, y = ix3 (d := ![1, 4608, 1152]) 0 (i 1).val (i 2).val Nat.one_pos h1 h2 := ⟨_, rfl⟩
  have hemb : ((cfg0.win 3).blk t).view.emb y = i := by
    funext a
    apply Fin.ext
    rw [hy]
    match a with
    | ⟨0, _⟩ => show win0_3.index t 0 * 1 + 1 * 0 = (i 0).val; rw [(index3 t).1]; omega
    | ⟨1, _⟩ => show win0_3.index t 1 * 4608 + 1 * (i 1).val = (i 1).val; rw [(index3 t).2.1]; omega
    | ⟨2, _⟩ => show win0_3.index t 2 * 1152 + 1 * (i 2).val = (i 2).val; rw [(index3 t).2.2]; omega
  have hfl := (dats m 0 c).arrAt_emb_eq_flushed 3 disjoint3 t (flush0_3 t) y
  rw [hemb] at hfl
  refine hfl.trans ?_
  show (dats m 0 c).after 3 t y = _
  rw [after0_3]
  refine (codesOut_apply _ _ (invOf_hist m c hr) _ _ y).trans ?_
  rw [val_eq m c hS]
  unfold codes
  refine congrArg (fun j => clip (deq (argX m c) (argS m c) j) _) (funext fun a => Fin.ext ?_)
  rw [hy]
  match a with
  | ⟨0, _⟩ => exact ht
  | ⟨1, _⟩ => rfl
  | ⟨2, _⟩ => rfl

/-- The run of the idealized kernel: its three results are those the mathematics names, its arguments unchanged. -/
theorem run (hS : ∀ c, BytesInRange (argS m c)) (hr : ∀ c, InRange (top (argH m c))) :
    θ_run defs (onTc (τ := τ) (main (F := Ideal))) ⟨m, fun _ => 0, ρ⟩ fun r => ∀ c : Dev nD,
      r.2.mem ((c.tc : Thread nD τ).loc main_v2_0) = codes (argX m c) (argS m c) (argH m c)
      ∧ r.2.mem ((c.tc : Thread nD τ).loc main_v2_1) = scale (argH m c)
      ∧ r.2.mem ((c.tc : Thread nD τ).loc main_v2_2) = amax (argX m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (arr3 m c (hS c) (hr c)), ((h c).1 4).trans (arr4 m c (hr c)),
    ((h c).1 5).trans (arr5 m c (hS c)),
    ((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.KernelIdeal.Val

end
-- ==== Proof.ReferenceValue.lean ====
/- What the idealized reference leaves in its three results over the extended reals: the functions of its arguments that
   Proof/ReferenceElements.lean names. -/
module

public import proofs.«01_k».proof.Proof.ReferenceElements
public import Idealize.ShloMosaic.Lib.Pipeline.ValueKit.Geometry

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Requant
open Idealize.ShloMosaic.Pipeline (Dat)

variable (m : (ℓ : Loc nD τ sig) → Buf (Elt Ideal) ℓ) (ρ : Dev nD → PrngReg)

/-- The input codes, -/
def argX (c : Dev nD) : FVec Ideal S32x1152x4608 .fp8e4m3 := m ((c : Thread nD τ).loc main_arg0)
/-- the scale bytes, -/
def argS (c : Dev nD) : IVec S32x1152x144 8 := m ((c : Thread nD τ).loc main_arg1)
/-- and the history. -/
def argH (c : Dev nD) : FVec Ideal S1024 .f32 := m ((c : Thread nD τ).loc main_arg2)

/-- The history's maximum, as the region finds it. -/
theorem V_main_v1 (c : Dev nD) : V m c main_v1
    = shapeCast S1x1 (Host.reduce FloatOps.maximumf (argH m c) (constant S_ .f32 0xFF800000#32) reducesTo_S1024_S_d0 h_S_ : FVec Ideal S_ .f32) shapeCasts_S_S1x1 := by
  show StableHlo.after hostOps0 _ (Proc.devRef .tc main_v1) = _
  after_results
  rfl

/-- It is the history's largest entry. -/
theorem V_main_v1_apply (c : Dev nD) (i : S1x1.Idx) : (V m c main_v1 : FVec Ideal S1x1 .f32) i = top (argH m c) := by
  rw [V_main_v1]
  refine eq_of_forall_ge_iff (α := EReal) fun z => ?_
  refine (hostReduce_max_le (t := S_) .f32 (argH m c) 0xFF800000#32 reducesTo_S1024_S_d0 h_S_ (fun b => b.elim0) _ z).trans ?_
  rw [negInf_f32]
  unfold top
  exact (and_iff_right bot_le).trans iSup_le_iff.symm

/-! ## The windows' blocks are the arrays -/

theorem iblk0 (c : Dev nD) (t : Fin cfg0.N) : iblk m c 0 t = argX m c := by
  funext j
  unfold iblk
  rw [View.read_apply]
  show V m c main_arg0 _ = _
  rw [V_main_arg0]
  show argX m c _ = _
  congr 1
  funext a
  exact Fin.ext (win0_0.rect_emb_val_of_index_zero t a rfl j)
theorem iblk1 (c : Dev nD) (t : Fin cfg0.N) : iblk m c 1 t = argS m c := by
  funext j
  unfold iblk
  rw [View.read_apply]
  show V m c main_arg1 _ = _
  rw [V_main_arg1]
  show argS m c _ = _
  congr 1
  funext a
  exact Fin.ext (win0_1.rect_emb_val_of_index_zero t a rfl j)
theorem iblk2 (c : Dev nD) (t : Fin cfg0.N) : iblk m c 2 t = V m c main_v1 := by
  funext j
  unfold iblk
  rw [View.read_apply]
  show V m c main_v1 _ = _
  congr 1
  funext a
  exact Fin.ext (win0_2.rect_emb_val_of_index_zero t a rfl j)

theorem off2_zero : (![0, 0] : Fin 2 → ℕ) = fun _ => 0 := by decide
theorem off3_zero : (![0, 0, 0] : Fin 3 → ℕ) = fun _ => 0 := by decide

/-- The first result's buffer after the body, -/
theorem out3 (x0 : Vec Ideal S32x1152x4608 .fp8e4m3) (x1 : Vec Ideal S32x1152x144 .i8) (x2 : Vec Ideal S1x1 .f32) :
    out0_3 x0 x1 x2 = k0_pay5 x0 x1 x2 := by
  unfold out0_3
  rw [View.canon_unit_zero off3_zero, View.ld_unit_zero off3_zero, View.ld_unit_zero off3_zero, View.ld_unit_zero off2_zero]
/-- the second's, -/
theorem out4 (x0 : Vec Ideal S32x1152x4608 .fp8e4m3) (x1 : Vec Ideal S32x1152x144 .i8) (x2 : Vec Ideal S1x1 .f32) :
    out0_4 x0 x1 x2 = k0_pay1 (k0_pay4 x2) := by
  unfold out0_4
  rw [View.canon_unit_zero off2_zero, View.ld_unit_zero off2_zero]
/-- and the third's. -/
theorem out5 (x0 : Vec Ideal S32x1152x4608 .fp8e4m3) (x1 : Vec Ideal S32x1152x144 .i8) (x2 : Vec Ideal S1x1 .f32) :
    out0_5 x0 x1 x2 = k0_pay2 (k0_pay3 x0 x1) := by
  unfold out0_5
  rw [View.canon_unit_zero off2_zero, View.ld_unit_zero off3_zero, View.ld_unit_zero off3_zero]

/-! ## The results -/

theorem only (t : Fin cfg0.N) : t = t0_0 := fin_N0 t
theorem whole3 : (cfg0.win 3).WholeAt t0_0 := ⟨by decide +kernel, fun t _ => only t, by decide +kernel⟩
theorem whole4 : (cfg0.win 4).WholeAt t0_0 := ⟨by decide +kernel, fun t _ => only t, by decide +kernel⟩
theorem whole5 : (cfg0.win 5).WholeAt t0_0 := ⟨by decide +kernel, fun t _ => only t, by decide +kernel⟩

/-- The first result is the codes. -/
theorem arr3 (c : Dev nD) : (dats m 0 c).arrAt 3 cfg0.N = codes (argX m c) (argS m c) (argH m c) :=
  (dats m 0 c).arrAt_eq_of_after_last 3 t0_0 whole3 _ fun j => by
    have e : (dats m 0 c).after 3 t0_0 = codes (argX m c) (argS m c) (argH m c) := by
      rw [after0_3, out3, iblk0, iblk1, iblk2]
      exact funext fun j => pay5_apply _ _ _ _ (V_main_v1_apply m c) j
    exact congrFun e _
/-- The second result is the scale. -/
theorem arr4 (c : Dev nD) : (dats m 0 c).arrAt 4 cfg0.N = scale (argH m c) :=
  (dats m 0 c).arrAt_eq_of_after_last 4 t0_0 whole4 _ fun j => by
    have e : (dats m 0 c).after 4 t0_0 = scale (argH m c) := by
      rw [after0_4, out4, iblk2]
      exact funext fun j => pay1_apply _ _ (V_main_v1_apply m c) j
    exact congrFun e _
/-- The third result is the largest magnitude. -/
theorem arr5 (c : Dev nD) : (dats m 0 c).arrAt 5 cfg0.N = amax (argX m c) (argS m c) :=
  (dats m 0 c).arrAt_eq_of_after_last 5 t0_0 whole5 _ fun j => by
    have e : (dats m 0 c).after 5 t0_0 = amax (argX m c) (argS m c) := by
      rw [after0_5, out5, iblk0, iblk1]
      funext i
      refine eq_of_forall_ge_iff (α := EReal) fun z => (pay2_le _ i z).trans ?_
      unfold amax
      simp only [pay3_apply]
      exact iSup_le_iff.symm
    exact congrFun e _

/-- The run of the idealized reference: its three results are those the mathematics names, its arguments unchanged. -/
theorem run : θ_run defs (onTc (τ := τ) (main (F := Ideal))) ⟨m, fun _ => 0, ρ⟩ fun r => ∀ c : Dev nD,
      r.2.mem ((c.tc : Thread nD τ).loc main_v2_0) = codes (argX m c) (argS m c) (argH m c)
      ∧ r.2.mem ((c.tc : Thread nD τ).loc main_v2_1) = scale (argH m c)
      ∧ r.2.mem ((c.tc : Thread nD τ).loc main_v2_2) = amax (argX m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (arr3 m c), ((h c).1 4).trans (arr4 m c), ((h c).1 5).trans (arr5 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m ρ)

end Cert.ReferenceIdeal.Value

end
-- ==== Proof.Precondition.lean ====
/- What the stated precondition says of the arrays: every scale byte is between 1 and 254, and the history's largest entry is one
   whose power of two and its reciprocal are normal numbers, or zero. -/
module

public import proofs.«01_k».proof.Proof.KernelValue
public import proofs.«01_k».proof.Proof.Gen.Pre_in_range
public import Idealize.ShloMosaic.Lib.ReduceAll

@[expose] public section

noncomputable section

namespace Cert.Requant

open Idealize.ShloMosaic
open Cert.Pre_in_range Cert.Pre_in_range.Gen

/-- A shape with no axes has one index. -/
instance : Subsingleton S_.Idx := ⟨fun a b => funext fun i => i.elim0⟩

/-- The host's maximum of the history. -/
def hostMax (H : FVec Ideal S1024 .f32) : FVec Ideal S_ .f32 :=
  Host.reduce FloatOps.maximumf H (constant S_ .f32 0xFF800000#32) reducesTo_S1024_S_d0 h_S_

/-- The host's maximum of the history is its largest entry. -/
theorem hostMax_eq (H : FVec Ideal S1024 .f32) (j : S_.Idx) : hostMax H j = Cert.ReferenceIdeal.Value.top H := by
  refine eq_of_forall_ge_iff (α := EReal) fun z => ?_
  refine (hostReduce_max_le (t := S_) .f32 H 0xFF800000#32 reducesTo_S1024_S_d0 h_S_ (fun b => b.elim0) j z).trans ?_
  rw [negInf_f32]
  unfold Cert.ReferenceIdeal.Value.top
  exact (and_iff_right bot_le).trans iSup_le_iff.symm

/-- The bit of each scale byte: it lies between 1 and 254. -/
def byteOk (S : IVec S32x1152x144 8) : IVec S32x1152x144 1 :=
  fun i => IntOp.andi (IntOp.cmpi .uge (S i) 1#8) (IntOp.cmpi .ule (S i) 254#8)

/-- The bits of the scale bytes, as the precondition's function computes them. -/
theorem byteOk_form (S : IVec S32x1152x144 8) :
    andi (cmpi .uge S (broadcastInDim S32x1152x144 ![] bcast_S_S32x1152x144 (constantI S_ 8 1#8)))
      (cmpi .ule S (broadcastInDim S32x1152x144 ![] bcast_S_S32x1152x144 (constantI S_ 8 254#8))) = byteOk S := by
  funext i
  rfl

/-- A comparison of the magnitude of a vector's scaled entries with a constant, entry by entry. -/
theorem magCmp_form (q : CmpFPredicate) (v : FVec Ideal S_ .f32) (w : BitVec 32) (j : S_.Idx) :
    cmpf q (Host.absf (mulf v (constant S_ .f32 0x3B124925#32))) (constant S_ .f32 w) j = Ideal.cmp q (mag (v j)) (Ideal.ofBits .f32 w) := rfl

/-- The precondition's function, entry by entry. -/
theorem fn_form (X : FVec Ideal S32x1152x4608 .fp8e4m3) (S : IVec S32x1152x144 8) (H : FVec Ideal S1024 .f32) :
    Cert.Pre_in_range.fn (F := Ideal) X S H = fun j =>
      IntOp.andi (Host.reduce IntOp.andi (byteOk S) (constantI S_ 1 1#1) reducesTo_S32x1152x144_S_d0_1_2 h_S_ j)
        (IntOp.ori (Ideal.cmp .oeq (mag (hostMax H j)) (Ideal.ofBits .f32 0x00000000#32))
          (IntOp.andi (Ideal.cmp .oge (mag (hostMax H j)) (Ideal.ofBits .f32 0x00800000#32))
            (Ideal.cmp .olt (mag (hostMax H j)) (Ideal.ofBits .f32 0x7E800000#32)))) := by
  unfold Cert.Pre_in_range.fn
  dsimp only
  rw [byteOk_form]
  funext j
  have hv : Host.reduce FloatOps.maximumf H (constant S_ .f32 0xFF800000#32) reducesTo_S1024_S_d0 h_S_ = hostMax H := rfl
  rw [hv]
  generalize hostMax H = v
  generalize Host.reduce IntOp.andi (byteOk S) (constantI S_ 1 1#1) reducesTo_S32x1152x144_S_d0_1_2 h_S_ = u
  rw [← magCmp_form, ← magCmp_form, ← magCmp_form]
  rfl

/-- Either of two bits is set when their disjunction is. -/
theorem or_eq_one : ∀ a b : BitVec 1, IntOp.ori a b = 1#1 → a = 1#1 ∨ b = 1#1 := by decide

/-- A byte that passes both comparisons lies between 1 and 254. -/
theorem byte_bounds : ∀ s : BitVec 8, IntOp.andi (IntOp.cmpi .uge s 1#8) (IntOp.cmpi .ule s 254#8) = 1#1 → 1 ≤ s.toNat ∧ s.toNat ≤ 254 := by
  decide +kernel

/-- The precondition read on the arrays. -/
theorem of_in_range (X : FVec Ideal S32x1152x4608 .fp8e4m3) (S : IVec S32x1152x144 8) (H : FVec Ideal S1024 .f32)
    (h : Cert.Pre_in_range.fn (F := Ideal) X S H = fun _ => 1#1) :
    Cert.KernelIdeal.Val.BytesInRange S ∧ InRange (Cert.ReferenceIdeal.Value.top H) := by
  rw [fn_form] at h
  obtain ⟨hall, hx⟩ := IntOp.andi_eq_one.1 (congrFun h fun a => a.elim0)
  refine ⟨fun i => byte_bounds _ (Host.reduce_andi_all (byteOk S) _ reducesTo_S32x1152x144_S_d0_1_2 h_S_ _ hall i), ?_⟩
  rw [hostMax_eq] at hx
  rcases or_eq_one _ _ hx with he | he
  · exact Or.inl (((cmp_oeq_iff _ _).1 he).trans Ideal.ofBits_zero_f32)
  · obtain ⟨ha, hb⟩ := IntOp.andi_eq_one.1 he
    exact Or.inr ⟨(cmp_oge_iff _ _).1 ha, (cmp_olt_iff _ _).1 hb⟩

end Cert.Requant

end
-- ==== Proof.lean ====
module

public import proofs.«01_k».proof.Defs
public import proofs.«01_k».proof.Proof.KernelFrame
public import proofs.«01_k».proof.Proof.KernelIdealFrame
public import proofs.«01_k».proof.Proof.KernelValue
public import proofs.«01_k».proof.Proof.ReferenceValue
public import proofs.«01_k».proof.Proof.Precondition
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- Each rewrite of the idealization is an instance of its rule. -/
theorem preserves : Cert.preserves_Kernel_KernelIdeal :=
  open Cert.KernelIdeal IdealRules.bf16_pair in
  ⟨bufferStatement S8x2x128 S8x1x128, statement S8x2x128 S8x1x128, selectZeroStatement S8x128, statement S16x128 S8x128⟩

/-- Under the precondition the idealized kernel and the idealized reference leave equal codes, scale and largest magnitude. -/
theorem algebraic : Cert.algebraic_KernelIdeal_ReferenceIdeal_pre_in_range := by
  intro m g m' g' hpre hargs
  have hin := fun c => Cert.Requant.of_in_range _ _ _ (hpre c)
  have eX : ∀ c, Cert.ReferenceIdeal.Value.argX m' c = Cert.KernelIdeal.Val.argX m c := fun c => (hargs c).1
  have eS : ∀ c, Cert.ReferenceIdeal.Value.argS m' c = Cert.KernelIdeal.Val.argS m c := fun c => (hargs c).2.1
  have eH : ∀ c, Cert.ReferenceIdeal.Value.argH m' c = Cert.KernelIdeal.Val.argH m c := fun c => (hargs c).2.2
  refine ⟨_, _, _, Cert.KernelIdeal.Val.run m g (fun c => (hin c).1) (fun c => (hin c).2), ?_⟩
  have hr := Cert.ReferenceIdeal.Value.run m' g'
  simp only [eX, eS, eH] at hr
  exact hr

theorem claim : Cert.Claim :=
  ⟨Cert.Kernel.Gen.facts, Cert.KernelIdeal.Gen.facts, Cert.ReferenceIdeal.Gen.facts, Cert.Pre_in_range.Gen.facts,
    fun m ρ _ => Cert.Kernel.Run.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    preserves, algebraic⟩

end Cert.Proof

end
